-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_below_inf [hPre_biases_below_inf : Cert.Pre_biases_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_biases_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_below_inf [hPre_biases_below_inf : Cert.Pre_biases_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_biases_below_inf [hKernelIdeal : Cert.KernelIdeal.Facts] [hPre_biases_below_inf : Cert.Pre_biases_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_biases_below_inf [hReferenceIdeal : Cert.ReferenceIdeal.Facts] [hPre_biases_below_inf : Cert.Pre_biases_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_biases_below_inf [hKernelIdeal : Cert.KernelIdeal.Facts] [hReferenceIdeal : Cert.ReferenceIdeal.Facts] [hPre_biases_below_inf : Cert.Pre_biases_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_biases_below_inf : Cert.Pre_biases_below_inf.Facts),
    quiescent_Kernel (hKernel := hKernel)
    ∧ quiescent_KernelIdeal (hKernelIdeal := hKernelIdeal)
    ∧ quiescent_KernelIdeal_pre_biases_below_inf (hKernelIdeal := hKernelIdeal) (hPre_biases_below_inf := hPre_biases_below_inf)
    ∧ quiescent_ReferenceIdeal (hReferenceIdeal := hReferenceIdeal)
    ∧ quiescent_ReferenceIdeal_pre_biases_below_inf (hReferenceIdeal := hReferenceIdeal) (hPre_biases_below_inf := hPre_biases_below_inf)
    ∧ preserves_Kernel_KernelIdeal
    ∧ algebraic_KernelIdeal_ReferenceIdeal_pre_biases_below_inf (hKernelIdeal := hKernelIdeal) (hReferenceIdeal := hReferenceIdeal) (hPre_biases_below_inf := hPre_biases_below_inf)
-- ==== Pre_biases_below_inf.lean ====
abbrev S16x16x4 : Shape := ⟨3, ![16, 16, 4]⟩
abbrev S32768x16x4 : Shape := ⟨3, ![32768, 16, 4]⟩
abbrev S32768x16x2 : Shape := ⟨3, ![32768, 16, 2]⟩
abbrev S32768x16 : Shape := ⟨2, ![32768, 16]⟩
abbrev S32768 : Shape := ⟨1, ![32768]⟩
abbrev S4x32 : Shape := ⟨2, ![4, 32]⟩
abbrev S32 : Shape := ⟨1, ![32]⟩
abbrev S2x32 : Shape := ⟨2, ![2, 32]⟩
abbrev S96x32 : Shape := ⟨2, ![96, 32]⟩
abbrev S32x32 : Shape := ⟨2, ![32, 32]⟩
abbrev S32x1 : Shape := ⟨2, ![32, 1]⟩
abbrev S1 : Shape := ⟨1, ![1]⟩
abbrev S64 : Shape := ⟨1, ![64]⟩
abbrev S_ : Shape := ⟨0, ![]⟩

class Facts : Prop where
  concatenates_S32_S32_S64_d0 : Shape.Concatenates [S32, S32] S64 0
  bcast_S_S64 : S_.BroadcastsInDim S64 (![] : Fin 0 → Fin S64.rank)

variable [Facts]

def fn {F : FTy → Type} [FloatOps F] (main_arg0 : FVec F S16x16x4 .f32) (main_arg1 : FVec F S32768x16x4 .f32) (main_arg2 : FVec F S32768x16x2 .f32) (main_arg3 : FVec F S32768x16 .f32) (main_arg4 : FVec F S32768x16 .f32) (main_arg5 : IVec S32768 32) (main_arg6 : IVec S32768 32) (main_arg7 : FVec F S4x32 .f32) (main_arg8 : FVec F S32 .f32) (main_arg9 : FVec F S4x32 .f32) (main_arg10 : FVec F S32 .f32) (main_arg11 : FVec F S2x32 .f32) (main_arg12 : FVec F S32 .f32) (main_arg13 : FVec F S96x32 .f32) (main_arg14 : FVec F S32 .f32) (main_arg15 : FVec F S32x32 .f32) (main_arg16 : FVec F S32 .f32) (main_arg17 : FVec F S32x1 .f32) (main_arg18 : FVec F S1 .f32) : IVec S64 1 :=
  let main_v0 : FVec F S64 .f32 := (fun a b => concatenate S64 0 [⟨S32, a⟩, ⟨S32, b⟩] concatenates_S32_S32_S64_d0) main_arg10 main_arg12
  let main_cst : FVec F S_ .f32 := constant S_ .f32 0x7F800000#32
  let main_v1 : FVec F S64 .f32 := broadcastInDim S64 ![] bcast_S_S64 main_cst
  let main_v2 : IVec S64 1 := cmpf .olt main_v0 main_v1
  main_v2
-- ==== Kernel.lean ====
abbrev S16x16x4 : Shape := ⟨3, ![16, 16, 4]⟩
abbrev S32768x16x4 : Shape := ⟨3, ![32768, 16, 4]⟩
abbrev S32768x16x2 : Shape := ⟨3, ![32768, 16, 2]⟩
abbrev S32768x16 : Shape := ⟨2, ![32768, 16]⟩
abbrev S32768 : Shape := ⟨1, ![32768]⟩
abbrev S4x32 : Shape := ⟨2, ![4, 32]⟩
abbrev S32 : Shape := ⟨1, ![32]⟩
abbrev S2x32 : Shape := ⟨2, ![2, 32]⟩
abbrev S96x32 : Shape := ⟨2, ![96, 32]⟩
abbrev S32x32 : Shape := ⟨2, ![32, 32]⟩
abbrev S32x1 : Shape := ⟨2, ![32, 1]⟩
abbrev S1 : Shape := ⟨1, ![1]⟩
abbrev S16x32768x4 : Shape := ⟨3, ![16, 32768, 4]⟩
abbrev S16x256x128x4 : Shape := ⟨4, ![16, 256, 128, 4]⟩
abbrev S16x256x4x128 : Shape := ⟨4, ![16, 256, 4, 128]⟩
abbrev S16x32768x2 : Shape := ⟨3, ![16, 32768, 2]⟩
abbrev S16x256x128x2 : Shape := ⟨4, ![16, 256, 128, 2]⟩
abbrev S16x256x2x128 : Shape := ⟨4, ![16, 256, 2, 128]⟩
abbrev S16x32768 : Shape := ⟨2, ![16, 32768]⟩
abbrev S1x32768 : Shape := ⟨2, ![1, 32768]⟩
abbrev S16x4x16 : Shape := ⟨3, ![16, 4, 16]⟩
abbrev S64x16 : Shape := ⟨2, ![64, 16]⟩
abbrev S_ : Shape := ⟨0, ![]⟩
abbrev S1x32 : Shape := ⟨2, ![1, 32]⟩
abbrev S6x32 : Shape := ⟨2, ![6, 32]⟩
abbrev S32x96 : Shape := ⟨2, ![32, 96]⟩
abbrev S512x16 : Shape := ⟨2, ![512, 16]⟩
abbrev S16x16 : Shape := ⟨2, ![16, 16]⟩
abbrev S16x16x1 : Shape := ⟨3, ![16, 16, 1]⟩
abbrev S16x512 : Shape := ⟨2, ![16, 512]⟩
abbrev S16x16x32 : Shape := ⟨3, ![16, 16, 32]⟩
abbrev S16x16x96 : Shape := ⟨3, ![16, 16, 96]⟩
abbrev S16x64x4x128 : Shape := ⟨4, ![16, 64, 4, 128]⟩
abbrev S16x8192 : Shape := ⟨2, ![16, 8192]⟩
abbrev S1x8192 : Shape := ⟨2, ![1, 8192]⟩
abbrev S16x64x2x128 : Shape := ⟨4, ![16, 64, 2, 128]⟩
abbrev S512x64 : Shape := ⟨2, ![512, 64]⟩
abbrev S512x32 : Shape := ⟨2, ![512, 32]⟩
abbrev S512x8 : Shape := ⟨2, ![512, 8]⟩
abbrev S32x6 : Shape := ⟨2, ![32, 6]⟩
abbrev S512x6 : Shape := ⟨2, ![512, 6]⟩
abbrev S32x4 : Shape := ⟨2, ![32, 4]⟩
abbrev S512x4 : Shape := ⟨2, ![512, 4]⟩
abbrev S4x64 : Shape := ⟨2, ![4, 64]⟩
abbrev S32x2 : Shape := ⟨2, ![32, 2]⟩
abbrev S512x2 : Shape := ⟨2, ![512, 2]⟩
abbrev S512x1 : Shape := ⟨2, ![512, 1]⟩
abbrev S64x8192 : Shape := ⟨2, ![64, 8192]⟩
abbrev S16x4x64x128 : Shape := ⟨4, ![16, 4, 64, 128]⟩
abbrev S512x8192 : Shape := ⟨2, ![512, 8192]⟩
abbrev S32x16 : Shape := ⟨2, ![32, 16]⟩
abbrev S32x8192 : Shape := ⟨2, ![32, 8192]⟩
abbrev S16x2x64x128 : Shape := ⟨4, ![16, 2, 64, 128]⟩
abbrev S32x512 : Shape := ⟨2, ![32, 512]⟩
abbrev S512x512 : Shape := ⟨2, ![512, 512]⟩
abbrev S1x512 : Shape := ⟨2, ![1, 512]⟩
abbrev S1x1 : Shape := ⟨2, ![1, 1]⟩

abbrev nBuf : Space → Nat
  | .hbm => 56
  | .vmem => 29
  | .smem => 0
  | _ => 0

abbrev bufTy : (tb : Table) → Fin (tcTables nBuf tb) → BufTy
  | .hbm, ⟨0, _⟩ => ⟨S16x16x4, .f32⟩
  | .hbm, ⟨1, _⟩ => ⟨S32768x16x4, .f32⟩
  | .hbm, ⟨2, _⟩ => ⟨S32768x16x2, .f32⟩
  | .hbm, ⟨3, _⟩ => ⟨S32768x16, .f32⟩
  | .hbm, ⟨4, _⟩ => ⟨S32768x16, .f32⟩
  | .hbm, ⟨5, _⟩ => ⟨S32768, .i32⟩
  | .hbm, ⟨6, _⟩ => ⟨S32768, .i32⟩
  | .hbm, ⟨7, _⟩ => ⟨S4x32, .f32⟩
  | .hbm, ⟨8, _⟩ => ⟨S32, .f32⟩
  | .hbm, ⟨9, _⟩ => ⟨S4x32, .f32⟩
  | .hbm, ⟨10, _⟩ => ⟨S32, .f32⟩
  | .hbm, ⟨11, _⟩ => ⟨S2x32, .f32⟩
  | .hbm, ⟨12, _⟩ => ⟨S32, .f32⟩
  | .hbm, ⟨13, _⟩ => ⟨S96x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S16x32768x4, .f32⟩
  | .hbm, ⟨20, _⟩ => ⟨S16x256x128x4, .f32⟩
  | .hbm, ⟨21, _⟩ => ⟨S16x256x4x128, .f32⟩
  | .hbm, ⟨22, _⟩ => ⟨S16x32768x2, .f32⟩
  | .hbm, ⟨23, _⟩ => ⟨S16x256x128x2, .f32⟩
  | .hbm, ⟨24, _⟩ => ⟨S16x256x2x128, .f32⟩
  | .hbm, ⟨25, _⟩ => ⟨S16x32768, .f32⟩
  | .hbm, ⟨26, _⟩ => ⟨S16x32768, .f32⟩
  | .hbm, ⟨27, _⟩ => ⟨S1x32768, .i32⟩
  | .hbm, ⟨28, _⟩ => ⟨S1x32768, .i32⟩
  | .hbm, ⟨29, _⟩ => ⟨S16x4x16, .f32⟩
  | .hbm, ⟨30, _⟩ => ⟨S64x16, .f32⟩
  | .hbm, ⟨31, _⟩ => ⟨S_, .i32⟩
  | .hbm, ⟨32, _⟩ => ⟨S_, .f32⟩
  | .hbm, ⟨33, _⟩ => ⟨S32, .f32⟩
  | .hbm, ⟨34, _⟩ => ⟨S1x32, .f32⟩
  | .hbm, ⟨35, _⟩ => ⟨S1x32, .f32⟩
  | .hbm, ⟨36, _⟩ => ⟨S1x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S6x32, .f32⟩
  | .hbm, ⟨41, _⟩ => ⟨S32x96, .f32⟩
  | .hbm, ⟨42, _⟩ => ⟨S1x32, .f32⟩
  | .hbm, ⟨43, _⟩ => ⟨S512x16, .f32⟩
  | .hbm, ⟨44, _⟩ => ⟨S512x16, .f32⟩
  | .hbm, ⟨45, _⟩ => ⟨S512x16, .f32⟩
  | .hbm, ⟨46, _⟩ => ⟨S16x16, .f32⟩
  | .hbm, ⟨47, _⟩ => ⟨S16x16, .f32⟩
  | .hbm, ⟨48, _⟩ => ⟨S16x16x1, .f32⟩
  | .hbm, ⟨49, _⟩ => ⟨S16x512, .f32⟩
  | .hbm, ⟨50, _⟩ => ⟨S16x16x32, .f32⟩
  | .hbm, ⟨51, _⟩ => ⟨S16x512, .f32⟩
  | .hbm, ⟨52, _⟩ => ⟨S16x16x32, .f32⟩
  | .hbm, ⟨53, _⟩ => ⟨S16x512, .f32⟩
  | .hbm, ⟨54, _⟩ => ⟨S16x16x32, .f32⟩
  | .hbm, ⟨55, _⟩ => ⟨S16x16x96, .f32⟩
  | .local _ .vmem, ⟨0, _⟩ => ⟨S16x64x4x128, .f32⟩
  | .local _ .vmem, ⟨1, _⟩ => ⟨S16x64x4x128, .f32⟩
  | .local _ .vmem, ⟨2, _⟩ => ⟨S16x8192, .f32⟩
  | .local _ .vmem, ⟨3, _⟩ => ⟨S16x8192, .f32⟩
  | .local _ .vmem, ⟨4, _⟩ => ⟨S1x8192, .i32⟩
  | .local _ .vmem, ⟨5, _⟩ => ⟨S1x8192, .i32⟩
  | .local _ .vmem, ⟨6, _⟩ => ⟨S16x64x2x128, .f32⟩
  | .local _ .vmem, ⟨7, _⟩ => ⟨S16x64x2x128, .f32⟩
  | .local _ .vmem, ⟨8, _⟩ => ⟨S16x8192, .f32⟩
  | .local _ .vmem, ⟨9, _⟩ => ⟨S16x8192, .f32⟩
  | .local _ .vmem, ⟨10, _⟩ => ⟨S1x8192, .i32⟩
  | .local _ .vmem, ⟨11, _⟩ => ⟨S1x8192, .i32⟩
  | .local _ .vmem, ⟨12, _⟩ => ⟨S32x96, .f32⟩
  | .local _ .vmem, ⟨13, _⟩ => ⟨S32x32, .f32⟩
  | .local _ .vmem, ⟨14, _⟩ => ⟨S1x32, .f32⟩
  | .local _ .vmem, ⟨15, _⟩ => ⟨S4x32, .f32⟩
  | .local _ .vmem, ⟨16, _⟩ => ⟨S4x32, .f32⟩
  | .local _ .vmem, ⟨17, _⟩ => ⟨S2x32, .f32⟩
  | .local _ .vmem, ⟨18, _⟩ => ⟨S6x32, .f32⟩
  | .local _ .vmem, ⟨19, _⟩ => ⟨S64x16, .f32⟩
  | .local _ .vmem, ⟨20, _⟩ => ⟨S512x16, .f32⟩
  | .local _ .vmem, ⟨21, _⟩ => ⟨S512x16, .f32⟩
  | .local _ .vmem, ⟨22, _⟩ => ⟨S512x16, .f32⟩
  | .local _ .vmem, ⟨23, _⟩ => ⟨S16x16, .f32⟩
  | .local _ .vmem, ⟨24, _⟩ => ⟨S16x16, .f32⟩
  | .local _ .vmem, ⟨25, _⟩ => ⟨S16x16, .f32⟩
  | .local _ .vmem, ⟨26, _⟩ => ⟨S512x64, .f32⟩
  | .local _ .vmem, ⟨27, _⟩ => ⟨S512x32, .f32⟩
  | .local _ .vmem, ⟨28, _⟩ => ⟨S512x8, .f32⟩
  | _, _ => ⟨S16x16x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c : Ref sig .tc := ⟨.hbm, 31, rfl⟩
abbrev main_call0_call0_v0 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_v15 : Ref sig .tc := ⟨.hbm, 36, rfl⟩
abbrev main_call0_v16 : Ref sig .tc := ⟨.hbm, 37, rfl⟩
abbrev main_call0_v17 : Ref sig .tc := ⟨.hbm, 38, rfl⟩
abbrev main_call0_v18 : Ref sig .tc := ⟨.hbm, 39, rfl⟩
abbrev main_call0_v19 : Ref sig .tc := ⟨.hbm, 40, rfl⟩
abbrev main_call0_v20 : Ref sig .tc := ⟨.hbm, 41, rfl⟩
abbrev main_call0_v21 : Ref sig .tc := ⟨.hbm, 42, rfl⟩
abbrev main_call0_v22_0 : Ref sig .tc := ⟨.hbm, 43, rfl⟩
abbrev main_call0_v22_1 : Ref sig .tc := ⟨.hbm, 44, rfl⟩
abbrev main_call0_v22_2 : Ref sig .tc := ⟨.hbm, 45, rfl⟩
abbrev main_call0_v22_3 : Ref sig .tc := ⟨.hbm, 46, rfl⟩
abbrev main_call0_v23 : Ref sig .tc := ⟨.hbm, 47, rfl⟩
abbrev main_v0_0 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_v28 : Ref sig .tc := ⟨.hbm, 52, rfl⟩
abbrev main_call0_v29 : Ref sig .tc := ⟨.hbm, 53, rfl⟩
abbrev main_call0_v30 : Ref sig .tc := ⟨.hbm, 54, rfl⟩
abbrev main_v0_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c0_i32_36 : BitVec 32 := 0#32
  let v79 : BitVec 1 := Scalar.cmpi .eq arg0 c0_i32_36
  let v80 : BitVec 32 := Scalar.extui v79
  let c0_i32_37 : BitVec 32 := 0#32
  let v81 : BitVec 1 := Scalar.cmpi .ne v80 c0_i32_37
  v81

def k0_cond3 (i : grid0.Coords) : BitVec 1 :=
  let arg0 : BitVec 32 := BitVec.ofNat 32 (i 0).val
  let c0_i32_38 : BitVec 32 := 0#32
  let v82 : BitVec 1 := Scalar.cmpi .sgt arg0 c0_i32_38
  let v83 : BitVec 32 := Scalar.extui v82
  let c0_i32_39 : BitVec 32 := 0#32
  let v84 : BitVec 1 := Scalar.cmpi .ne v83 c0_i32_39
  v84

def k0_cond4 (i : grid0.Coords) : BitVec 1 :=
  let arg0 : BitVec 32 := BitVec.ofNat 32 (i 0).val
  let c3_i32 : BitVec 32 := 3#32
  let v85 : BitVec 1 := Scalar.cmpi .eq arg0 c3_i32
  let v86 : BitVec 32 := Scalar.extui v85
  let c0_i32_40 : BitVec 32 := 0#32
  let v87 : BitVec 1 := Scalar.cmpi .ne v86 c0_i32_40
  v87

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x64x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8192 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S16x16x4 : Shape := ⟨3, ![16, 16, 4]⟩
abbrev S32768x16x4 : Shape := ⟨3, ![32768, 16, 4]⟩
abbrev S32768x16x2 : Shape := ⟨3, ![32768, 16, 2]⟩
abbrev S32768x16 : Shape := ⟨2, ![32768, 16]⟩
abbrev S32768 : Shape := ⟨1, ![32768]⟩
abbrev S4x32 : Shape := ⟨2, ![4, 32]⟩
abbrev S32 : Shape := ⟨1, ![32]⟩
abbrev S2x32 : Shape := ⟨2, ![2, 32]⟩
abbrev S96x32 : Shape := ⟨2, ![96, 32]⟩
abbrev S32x32 : Shape := ⟨2, ![32, 32]⟩
abbrev S32x1 : Shape := ⟨2, ![32, 1]⟩
abbrev S1 : Shape := ⟨1, ![1]⟩
abbrev S16x16x32 : Shape := ⟨3, ![16, 16, 32]⟩
abbrev S1x1x32 : Shape := ⟨3, ![1, 1, 32]⟩
abbrev S_ : Shape := ⟨0, ![]⟩
abbrev S32768x16x32 : Shape := ⟨3, ![32768, 16, 32]⟩
abbrev S32768x16x1 : Shape := ⟨3, ![32768, 16, 1]⟩
abbrev S32768x512 : Shape := ⟨2, ![32768, 512]⟩
abbrev S16x512 : Shape := ⟨2, ![16, 512]⟩
abbrev S32768x1 : Shape := ⟨2, ![32768, 1]⟩
abbrev S16x16x96 : Shape := ⟨3, ![16, 16, 96]⟩
abbrev S16x16x1 : Shape := ⟨3, ![16, 16, 1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S16x16x4, .f32⟩
  | .hbm, ⟨1, _⟩ => ⟨S32768x16x4, .f32⟩
  | .hbm, ⟨2, _⟩ => ⟨S32768x16x2, .f32⟩
  | .hbm, ⟨3, _⟩ => ⟨S32768x16, .f32⟩
  | .hbm, ⟨4, _⟩ => ⟨S32768x16, .f32⟩
  | .hbm, ⟨5, _⟩ => ⟨S32768, .i32⟩
  | .hbm, ⟨6, _⟩ => ⟨S32768, .i32⟩
  | .hbm, ⟨7, _⟩ => ⟨S4x32, .f32⟩
  | .hbm, ⟨8, _⟩ => ⟨S32, .f32⟩
  | .hbm, ⟨9, _⟩ => ⟨S4x32, .f32⟩
  | .hbm, ⟨10, _⟩ => ⟨S32, .f32⟩
  | .hbm, ⟨11, _⟩ => ⟨S2x32, .f32⟩
  | .hbm, ⟨12, _⟩ => ⟨S32, .f32⟩
  | .hbm, ⟨13, _⟩ => ⟨S96x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S16x16x32, .f32⟩
  | .hbm, ⟨20, _⟩ => ⟨S1x1x32, .f32⟩
  | .hbm, ⟨21, _⟩ => ⟨S16x16x32, .f32⟩
  | .hbm, ⟨22, _⟩ => ⟨S16x16x32, .f32⟩
  | .hbm, ⟨23, _⟩ => ⟨S_, .f32⟩
  | .hbm, ⟨24, _⟩ => ⟨S16x16x32, .f32⟩
  | .hbm, ⟨25, _⟩ => ⟨S16x16x32, .f32⟩
  | .hbm, ⟨26, _⟩ => ⟨S32768x16x32, .f32⟩
  | .hbm, ⟨27, _⟩ => ⟨S1x1x32, .f32⟩
  | .hbm, ⟨28, _⟩ => ⟨S32768x16x32, .f32⟩
  | .hbm, ⟨29, _⟩ => ⟨S32768x16x32, .f32⟩
  | .hbm, ⟨30, _⟩ => ⟨S_, .f32⟩
  | .hbm, ⟨31, _⟩ => ⟨S32768x16x32, .f32⟩
  | .hbm, ⟨32, _⟩ => ⟨S32768x16x32, .f32⟩
  | .hbm, ⟨33, _⟩ => ⟨S_, .f32⟩
  | .hbm, ⟨34, _⟩ => ⟨S32768x16, .f32⟩
  | .hbm, ⟨35, _⟩ => ⟨S32768x16, .i1⟩
  | .hbm, ⟨36, _⟩ => ⟨S32768x16, .f32⟩
  | .hbm, ⟨37, _⟩ => ⟨S32768x16x1, .f32⟩
  | .hbm, ⟨38, _⟩ => ⟨S32768x16x32, .f32⟩
  | .hbm, ⟨39, _⟩ => ⟨S32768x16x32, .f32⟩
  | .hbm, ⟨40, _⟩ => ⟨S32768x512, .f32⟩
  | .hbm, ⟨41, _⟩ => ⟨S_, .f32⟩
  | .hbm, ⟨42, _⟩ => ⟨S16x512, .f32⟩
  | .hbm, ⟨43, _⟩ => ⟨S32768x1, .i32⟩
  | .hbm, ⟨44, _⟩ => ⟨S16x512, .f32⟩
  | .hbm, ⟨45, _⟩ => ⟨S16x16x32, .f32⟩
  | .hbm, ⟨46, _⟩ => ⟨S32768x16x32, .f32⟩
  | .hbm, ⟨47, _⟩ => ⟨S1x1x32, .f32⟩
  | .hbm, ⟨48, _⟩ => ⟨S32768x16x32, .f32⟩
  | .hbm, ⟨49, _⟩ => ⟨S32768x16x32, .f32⟩
  | .hbm, ⟨50, _⟩ => ⟨S_, .f32⟩
  | .hbm, ⟨51, _⟩ => ⟨S32768x16x32, .f32⟩
  | .hbm, ⟨52, _⟩ => ⟨S32768x16x32, .f32⟩
  | .hbm, ⟨53, _⟩ => ⟨S_, .f32⟩
  | .hbm, ⟨54, _⟩ => ⟨S32768x16, .f32⟩
  | .hbm, ⟨55, _⟩ => ⟨S32768x16, .i1⟩
  | .hbm, ⟨56, _⟩ => ⟨S32768x16, .f32⟩
  | .hbm, ⟨57, _⟩ => ⟨S32768x16x1, .f32⟩
  | .hbm, ⟨58, _⟩ => ⟨S32768x16x32, .f32⟩
  | .hbm, ⟨59, _⟩ => ⟨S32768x16x32, .f32⟩
  | .hbm, ⟨60, _⟩ => ⟨S32768x512, .f32⟩
  | .hbm, ⟨61, _⟩ => ⟨S_, .f32⟩
  | .hbm, ⟨62, _⟩ => ⟨S16x512, .f32⟩
  | .hbm, ⟨63, _⟩ => ⟨S32768x1, .i32⟩
  | .hbm, ⟨64, _⟩ => ⟨S16x512, .f32⟩
  | .hbm, ⟨65, _⟩ => ⟨S16x16x32, .f32⟩
  | .hbm, ⟨66, _⟩ => ⟨S16x16x96, .f32⟩
  | .hbm, ⟨67, _⟩ => ⟨S16x16x32, .f32⟩
  | .hbm, ⟨68, _⟩ => ⟨S1x1x32, .f32⟩
  | .hbm, ⟨69, _⟩ => ⟨S16x16x32, .f32⟩
  | .hbm, ⟨70, _⟩ => ⟨S16x16x32, .f32⟩
  | .hbm, ⟨71, _⟩ => ⟨S_, .f32⟩
  | .hbm, ⟨72, _⟩ => ⟨S16x16x32, .f32⟩
  | .hbm, ⟨73, _⟩ => ⟨S16x16x32, .f32⟩
  | .hbm, ⟨74, _⟩ => ⟨S16x16x32, .f32⟩
  | .hbm, ⟨75, _⟩ => ⟨S1x1x32, .f32⟩
  | .hbm, ⟨76, _⟩ => ⟨S16x16x32, .f32⟩
  | .hbm, ⟨77, _⟩ => ⟨S16x16x32, .f32⟩
  | .hbm, ⟨78, _⟩ => ⟨S_, .f32⟩
  | .hbm, ⟨79, _⟩ => ⟨S16x16x32, .f32⟩
  | .hbm, ⟨80, _⟩ => ⟨S16x16x32, .f32⟩
  | .hbm, ⟨81, _⟩ => ⟨S16x16x1, .f32⟩
  | .hbm, ⟨82, _⟩ => ⟨S1x1x1, .f32⟩
  | .hbm, ⟨83, _⟩ => ⟨S16x16x1, .f32⟩
  | .hbm, ⟨84, _⟩ => ⟨S16x16x1, .f32⟩
  | _, _ => ⟨S16x16x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_cst : Ref sig .tc := ⟨.hbm, 23, rfl⟩
abbrev main_call0_v0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_call1_cst : Ref sig .tc := ⟨.hbm, 30, rfl⟩
abbrev main_call1_v0 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call2_cst : Ref sig .tc := ⟨.hbm, 50, rfl⟩
abbrev main_call2_v0 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_2 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call3_cst : Ref sig .tc := ⟨.hbm, 71, rfl⟩
abbrev main_call3_v0 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call4_cst : Ref sig .tc := ⟨.hbm, 78, rfl⟩
abbrev main_call4_v0 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]
-- ==== Proof.Base.lean ====
/- What the points of the grid do, the staging memrefs and the scratch, for the frame of the kernel. -/
module

public import proofs.«01_k».proof.Proof.Gen.KernelIdeal.Skeleton
public import proofs.«01_k».proof.Proof.Gen.KernelIdeal.Frame
public import Idealize.ShloMosaic.Lib.Pipeline.TableIdle
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which branches a point takes -/

/-- The first branch's question: the point is the first. -/
abbrev isFirst (i : grid0.Coords) : Prop := (Scalar.cmpi .ne (Scalar.extui (Scalar.cmpi .eq (BitVec.ofNat 32 (i 0).val) 0#32)) 0#32) = 1#1
/-- The second branch's question: the accumulators are stored fresh. -/
abbrev isFresh (i : grid0.Coords) : Prop := k0_cond2 i = 1#1
/-- The third branch's question: the accumulators are added to. -/
abbrev isLater (i : grid0.Coords) : Prop := k0_cond3 i = 1#1
/-- The fourth branch's question: the point is the last. -/
abbrev isLast (i : grid0.Coords) : Prop := k0_cond4 i = 1#1

/-- The first branch is taken at point 0 alone. -/
theorem isFirst_iff : ∀ t : Fin cfg0.N, isFirst (grid0.coords t) ↔ t.val = 0 :=
  (by decide +kernel : ∀ t : Fin grid0.N, isFirst (grid0.coords t) ↔ t.val = 0)
/-- The branch that overwrites the sums is taken at point 0 alone. -/
theorem isFresh_iff : ∀ t : Fin cfg0.N, isFresh (grid0.coords t) ↔ t.val = 0 :=
  (by decide +kernel : ∀ t : Fin grid0.N, isFresh (grid0.coords t) ↔ t.val = 0)
/-- The branch that adds to the sums is taken at every other point. -/
theorem isLater_iff : ∀ t : Fin cfg0.N, isLater (grid0.coords t) ↔ t.val ≠ 0 :=
  (by decide +kernel : ∀ t : Fin grid0.N, isLater (grid0.coords t) ↔ t.val ≠ 0)
/-- The closing branch is taken at point 3 alone. -/
theorem isLast_iff : ∀ t : Fin cfg0.N, isLast (grid0.coords t) ↔ t.val = 3 :=
  (by decide +kernel : ∀ t : Fin grid0.N, isLast (grid0.coords t) ↔ t.val = 3)

/-! ## Which windows a point leaves alone -/

/-- The two accumulators are stored into at every point. -/
theorem live14 : ∀ t : Fin cfg0.N, cfg0.idle 14 (grid0.coords t) = false := by decide +kernel
/-- The signs' sums are live at every point. -/
theorem live15 : ∀ t : Fin cfg0.N, cfg0.idle 15 (grid0.coords t) = false := by decide +kernel
/-- The other two outputs are stored into at the last point only. -/
theorem live16 : ∀ t : Fin cfg0.N, t.val = 3 → cfg0.idle 16 (grid0.coords t) = false := by decide +kernel
/-- The scores are live at the last point. -/
theorem live17 : ∀ t : Fin cfg0.N, t.val = 3 → cfg0.idle 17 (grid0.coords t) = false := by decide +kernel
/-- Before the last point the pedestrian output is idle. -/
theorem idle16 : ∀ t : Fin cfg0.N, t.val ≠ 3 → cfg0.idle 16 (grid0.coords t) = true := by decide +kernel
/-- Before the last point the scores are idle. -/
theorem idle17 : ∀ t : Fin cfg0.N, t.val ≠ 3 → cfg0.idle 17 (grid0.coords t) = true := by decide +kernel
/-- The pedestrian output is not written back before the last point. -/
theorem still16 : ∀ t : Fin cfg0.N, t.val ≠ 3 → (cfg0.win 16).flush t = false := by decide +kernel
/-- The scores are not written back before the last point. -/
theorem still17 : ∀ t : Fin cfg0.N, t.val ≠ 3 → (cfg0.win 17).flush t = false := by decide +kernel

/-- Where an accumulator's staging buffer holds nothing the body stored: before the first point and past the last. -/
def freshTab : ℕ → Bool
  | 0 => true
  | n + 1 => (0x8 : ℕ).testBit n
/-- Where the neighbours' sums are a fresh buffer. -/
theorem freshTab14 : ∀ t : Fin cfg0.N,
    freshTab (t.val + 1) = ((cfg0.win 14).flush t || (cfg0.idle 14 (cfg0.grid.coords t) && freshTab t.val)) := by decide +kernel
/-- Where the signs' sums are a fresh buffer. -/
theorem freshTab15 : ∀ t : Fin cfg0.N,
    freshTab (t.val + 1) = ((cfg0.win 15).flush t || (cfg0.idle 15 (cfg0.grid.coords t) && freshTab t.val)) := by decide +kernel
/-- After point 0 no buffer of sums is fresh. -/
theorem freshTab_later : ∀ t : Fin cfg0.N, t.val ≠ 0 → freshTab t.val = false := by decide +kernel
/-- At every point but the first an accumulator's buffer holds what the point before left. -/
theorem kept14 (t : Fin cfg0.N) (h : t.val ≠ 0) : cfg0.fresh 14 t.val = false :=
  (Pipeline.Cfg.fresh_tab cfg0 14 freshTab rfl freshTab14 t.val (Nat.le_of_lt t.isLt)).trans (freshTab_later t h)
/-- After point 0 the signs' sums are the buffer of the point before. -/
theorem kept15 (t : Fin cfg0.N) (h : t.val ≠ 0) : cfg0.fresh 15 t.val = false :=
  (Pipeline.Cfg.fresh_tab cfg0 15 freshTab rfl freshTab15 t.val (Nat.le_of_lt t.isLt)).trans (freshTab_later t h)

/-! ## The staging memrefs and the scratch -/

/-- The buffer of the neighbour boxes at a point. -/
abbrev ms0_0 (t : Fin cfg0.N) : Memref sig .tc .vmem S16x64x4x128 .f32 := win0_0.stage (cfg0.slots t 0)
/-- That buffer is a whole one. -/
abbrev hs0_0 (t : Fin cfg0.N) : (ms0_0 t).IsWhole := hstage0_0 ((cfg0.slots t 0).cast nbuf0_0)
/-- The buffer of the neighbour classes at a point. -/
abbrev ms0_1 (t : Fin cfg0.N) : Memref sig .tc .vmem S16x8192 .f32 := win0_1.stage (cfg0.slots t 1)
/-- That buffer is a whole one. -/
abbrev hs0_1 (t : Fin cfg0.N) : (ms0_1 t).IsWhole := hstage0_1 ((cfg0.slots t 1).cast nbuf0_1)
/-- The buffer of the neighbour slots at a point. -/
abbrev ms0_2 (t : Fin cfg0.N) : Memref sig .tc .vmem S1x8192 .i32 := win0_2.stage (cfg0.slots t 2)
/-- That buffer is a whole one. -/
abbrev hs0_2 (t : Fin cfg0.N) : (ms0_2 t).IsWhole := hstage0_2 ((cfg0.slots t 2).cast nbuf0_2)
/-- The buffer of the sign boxes at a point. -/
abbrev ms0_3 (t : Fin cfg0.N) : Memref sig .tc .vmem S16x64x2x128 .f32 := win0_3.stage (cfg0.slots t 3)
/-- That buffer is a whole one. -/
abbrev hs0_3 (t : Fin cfg0.N) : (ms0_3 t).IsWhole := hstage0_3 ((cfg0.slots t 3).cast nbuf0_3)
/-- The buffer of the sign classes at a point. -/
abbrev ms0_4 (t : Fin cfg0.N) : Memref sig .tc .vmem S16x8192 .f32 := win0_4.stage (cfg0.slots t 4)
/-- That buffer is a whole one. -/
abbrev hs0_4 (t : Fin cfg0.N) : (ms0_4 t).IsWhole := hstage0_4 ((cfg0.slots t 4).cast nbuf0_4)
/-- The buffer of the sign slots at a point. -/
abbrev ms0_5 (t : Fin cfg0.N) : Memref sig .tc .vmem S1x8192 .i32 := win0_5.stage (cfg0.slots t 5)
/-- That buffer is a whole one. -/
abbrev hs0_5 (t : Fin cfg0.N) : (ms0_5 t).IsWhole := hstage0_5 ((cfg0.slots t 5).cast nbuf0_5)
/-- The buffer of the first weights, transposed at a point. -/
abbrev ms0_6 (t : Fin cfg0.N) : Memref sig .tc .vmem S32x96 .f32 := win0_6.stage (cfg0.slots t 6)
/-- That buffer is a whole one. -/
abbrev hs0_6 (t : Fin cfg0.N) : (ms0_6 t).IsWhole := hstage0_6 ((cfg0.slots t 6).cast nbuf0_6)
/-- The buffer of the second weights at a point. -/
abbrev ms0_7 (t : Fin cfg0.N) : Memref sig .tc .vmem S32x32 .f32 := win0_7.stage (cfg0.slots t 7)
/-- That buffer is a whole one. -/
abbrev hs0_7 (t : Fin cfg0.N) : (ms0_7 t).IsWhole := hstage0_7 ((cfg0.slots t 7).cast nbuf0_7)
/-- The buffer of the third weights, transposed at a point. -/
abbrev ms0_8 (t : Fin cfg0.N) : Memref sig .tc .vmem S1x32 .f32 := win0_8.stage (cfg0.slots t 8)
/-- That buffer is a whole one. -/
abbrev hs0_8 (t : Fin cfg0.N) : (ms0_8 t).IsWhole := hstage0_8 ((cfg0.slots t 8).cast nbuf0_8)
/-- The buffer of the neighbour weights at a point. -/
abbrev ms0_9 (t : Fin cfg0.N) : Memref sig .tc .vmem S4x32 .f32 := win0_9.stage (cfg0.slots t 9)
/-- That buffer is a whole one. -/
abbrev hs0_9 (t : Fin cfg0.N) : (ms0_9 t).IsWhole := hstage0_9 ((cfg0.slots t 9).cast nbuf0_9)
/-- The buffer of the pedestrian weights at a point. -/
abbrev ms0_10 (t : Fin cfg0.N) : Memref sig .tc .vmem S4x32 .f32 := win0_10.stage (cfg0.slots t 10)
/-- That buffer is a whole one. -/
abbrev hs0_10 (t : Fin cfg0.N) : (ms0_10 t).IsWhole := hstage0_10 ((cfg0.slots t 10).cast nbuf0_10)
/-- The buffer of the sign weights at a point. -/
abbrev ms0_11 (t : Fin cfg0.N) : Memref sig .tc .vmem S2x32 .f32 := win0_11.stage (cfg0.slots t 11)
/-- That buffer is a whole one. -/
abbrev hs0_11 (t : Fin cfg0.N) : (ms0_11 t).IsWhole := hstage0_11 ((cfg0.slots t 11).cast nbuf0_11)
/-- The buffer of the stacked biases at a point. -/
abbrev ms0_12 (t : Fin cfg0.N) : Memref sig .tc .vmem S6x32 .f32 := win0_12.stage (cfg0.slots t 12)
/-- That buffer is a whole one. -/
abbrev hs0_12 (t : Fin cfg0.N) : (ms0_12 t).IsWhole := hstage0_12 ((cfg0.slots t 12).cast nbuf0_12)
/-- The buffer of the pedestrian boxes, transposed at a point. -/
abbrev ms0_13 (t : Fin cfg0.N) : Memref sig .tc .vmem S64x16 .f32 := win0_13.stage (cfg0.slots t 13)
/-- That buffer is a whole one. -/
abbrev hs0_13 (t : Fin cfg0.N) : (ms0_13 t).IsWhole := hstage0_13 ((cfg0.slots t 13).cast nbuf0_13)
/-- The buffer of the neighbours' sums at a point. -/
abbrev ms0_14 (t : Fin cfg0.N) : Memref sig .tc .vmem S512x16 .f32 := win0_14.stage (cfg0.slots t 14)
/-- That buffer is a whole one. -/
abbrev hs0_14 (t : Fin cfg0.N) : (ms0_14 t).IsWhole := hstage0_14 ((cfg0.slots t 14).cast nbuf0_14)
/-- The buffer of the signs' sums at a point. -/
abbrev ms0_15 (t : Fin cfg0.N) : Memref sig .tc .vmem S512x16 .f32 := win0_15.stage (cfg0.slots t 15)
/-- That buffer is a whole one. -/
abbrev hs0_15 (t : Fin cfg0.N) : (ms0_15 t).IsWhole := hstage0_15 ((cfg0.slots t 15).cast nbuf0_15)
/-- The buffer of the pedestrian embedding at a point. -/
abbrev ms0_16 (t : Fin cfg0.N) : Memref sig .tc .vmem S512x16 .f32 := win0_16.stage (cfg0.slots t 16)
/-- That buffer is a whole one. -/
abbrev hs0_16 (t : Fin cfg0.N) : (ms0_16 t).IsWhole := hstage0_16 ((cfg0.slots t 16).cast nbuf0_16)
/-- The buffer of the scores at a point. -/
abbrev ms0_17 (t : Fin cfg0.N) : Memref sig .tc .vmem S16x16 .f32 := win0_17.stage (cfg0.slots t 17)
/-- That buffer is a whole one. -/
abbrev hs0_17 (t : Fin cfg0.N) : (ms0_17 t).IsWhole := hstage0_17 ((cfg0.slots t 17).cast nbuf0_17)
/-- The count of masked neighbours, carried from step to step. -/
abbrev sc0 : Memref sig .tc .vmem S16x16 .f32 := Memref.whole cc0_scratch0
/-- The count of masked signs, carried from step to step. -/
abbrev sc1 : Memref sig .tc .vmem S16x16 .f32 := Memref.whole cc0_scratch1
/-- The laid-out neighbour weights, made at the first step. -/
abbrev sc2 : Memref sig .tc .vmem S512x64 .f32 := Memref.whole cc0_scratch2
/-- The laid-out sign weights, made at the first step. -/
abbrev sc3 : Memref sig .tc .vmem S512x32 .f32 := Memref.whole cc0_scratch3
/-- The bias columns, made at the first step. -/
abbrev sc4 : Memref sig .tc .vmem S512x8 .f32 := Memref.whole cc0_scratch4

/-- What the launch hands the region: the five scratch buffers at anything and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

end Cert.KernelIdeal.Hand

end
-- ==== Proof.Step.lean ====
/- What the kernel's body computes at a point, as plain functions of the blocks it loads, and how the stores and
   loads of its buffers read. -/
module

public import proofs.«01_k».proof.Proof.Base
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, over the blocks it is given -/

/-- The fourteen input blocks of a point. -/
structure Ins (F : FTy → Type) [FloatOps F] where
  x0 : Vec F S16x64x4x128 .f32
  x1 : Vec F S16x8192 .f32
  x2 : Vec F S1x8192 .i32
  x3 : Vec F S16x64x2x128 .f32
  x4 : Vec F S16x8192 .f32
  x5 : Vec F S1x8192 .i32
  x6 : Vec F S32x96 .f32
  x7 : Vec F S32x32 .f32
  x8 : Vec F S1x32 .f32
  x9 : Vec F S4x32 .f32
  x10 : Vec F S4x32 .f32
  x11 : Vec F S2x32 .f32
  x12 : Vec F S6x32 .f32
  x13 : Vec F S64x16 .f32

/-- The weights laid out once, at the first point: the biases as columns and the two layers as block diagonals. -/
def biasCols (b : Vec F S6x32 .f32) : Vec F S512x6 .f32 := k0_pay10 b
/-- The neighbour weights repeated down the diagonal, one copy per time. -/
def diagN (w : Vec F S4x32 .f32) : Vec F S512x64 .f32 :=
  k0_pay19 (k0_pay15 (k0_pay11 w) (iota .tc S4x64 32 [0] iota_S4x64_d0_w32) 4#32 k0_pay12 k0_pay13 k0_pay14)
    k0_pay16 (iota .tc S512x64 32 [1] iota_S512x64_d1_w32) 4#32 k0_pay17 k0_pay18
/-- The sign weights likewise. -/
def diagS (w : Vec F S2x32 .f32) : Vec F S512x32 .f32 :=
  k0_pay48 (k0_pay22 (k0_pay20 (k0_pay9 (F := F)) w) k0_pay21) k0_pay23 k0_pay24 k0_pay25 k0_pay26

/-- Column `j` of the bias columns. -/
def colOf (d : Vec F S512x6 .f32) (j : ℕ) (hj : j < 6) : Vec F S512x1 .f32 := fun y => d (ix2 (n0 := 512) (n1 := 6) ⟨(y 0).val, (y 0).isLt⟩ ⟨j, hj⟩)

/-- One point's contribution to the two feature accumulators, and to the two counts. -/
def featN (dg : Vec F S512x64 .f32) (bc : Vec F S512x6 .f32) (x : Ins F) : Vec F S512x16 .f32 :=
  k0_pay51 dg (colOf bc 0 (by decide)) x.x1 x.x0 x.x2
/-- One block's contribution to the signs' sums. -/
def featS (dg : Vec F S512x32 .f32) (bc : Vec F S512x6 .f32) (x : Ins F) : Vec F S512x16 .f32 :=
  k0_pay55 dg (colOf bc 1 (by decide)) x.x4 x.x3 x.x5
/-- One block's count of masked neighbours. -/
def cntN (x : Ins F) : Vec F S16x16 .f32 := k0_pay52 (k0_pay49 x.x1) (k0_pay50 x.x2)

/-- The four accumulators. -/
structure Acc (F : FTy → Type) [FloatOps F] where
  fn : Vec F S512x16 .f32
  fs : Vec F S512x16 .f32
  cn : Vec F S16x16 .f32
  cs : Vec F S16x16 .f32

/-- What is laid out once and kept. -/
structure Lay (F : FTy → Type) [FloatOps F] where
  dn : Vec F S512x64 .f32
  ds : Vec F S512x32 .f32
  bc : Vec F S512x6 .f32

/-- What the first step lays out. -/
def layOf (x : Ins F) : Lay F := ⟨diagN x.x9, diagS x.x11, biasCols x.x12⟩

/-- The accumulators after the first point, and after a later one. -/
def accFirst (l : Lay F) (x : Ins F) : Acc F where
  fn := featN l.dn l.bc x
  fs := featS l.ds l.bc x
  cn := k0_pay2 (cntN x)
  cs := k0_pay3 (k0_pay53 x.x4) (k0_pay54 x.x5) (k0_pay56 (F := F))
/-- One block added to the sums so far. -/
def accNext (l : Lay F) (x : Ins F) (a : Acc F) : Acc F where
  fn := k0_pay4 (featN l.dn l.bc x) a.fn
  fs := k0_pay5 (featS l.ds l.bc x) a.fs
  cn := k0_pay6 (cntN x) a.cn
  cs := k0_pay7 (k0_pay53 x.x4) (k0_pay54 x.x5) (k0_pay56 (F := F)) a.cs

/-- The last point's results: the two features with the masked objects' share taken out, -/
def outN (l : Lay F) (a : Acc F) : Vec F S512x16 .f32 := k0_pay37 (k0_pay35 (colOf l.bc 0 (by decide))) a.fn a.cn
/-- The signs' sums with the masked objects' share taken off. -/
def outS (l : Lay F) (a : Acc F) : Vec F S512x16 .f32 := k0_pay38 (k0_pay36 (colOf l.bc 1 (by decide))) a.fs a.cs
/-- the pedestrians' own features, -/
def outP (l : Lay F) (x : Ins F) : Vec F S512x16 .f32 :=
  k0_pay43 (k0_pay39 (k0_pay27 (F := F)) x.x10) k0_pay40 k0_pay41 k0_pay42 x.x13 (colOf l.bc 2 (by decide))
/-- the first classifier layer before its rectifier, and the score. -/
def hid1 (l : Lay F) (x : Ins F) (a : Acc F) : Vec F S512x16 .f32 :=
  k0_pay44 (k0_pay27 (F := F)) (k0_pay28 (F := F)) (k0_pay32 (F := F) (k0_pay31 (iota .tc S512x512 32 [0] iota_S512x512_d0_w32) 32#32 k0_pay29 k0_pay30)) (k0_pay33 x.x6)
    (outN l a) (outS l a) (k0_pay39 (k0_pay27 (F := F)) x.x10) k0_pay40 k0_pay41 k0_pay42 x.x13 (colOf l.bc 2 (by decide)) (colOf l.bc 3 (by decide))
/-- The second hidden layer, all times and slots. -/
def hid2 (l : Lay F) (x : Ins F) (a : Acc F) : Vec F S512x16 .f32 :=
  k0_pay45 (k0_pay27 (F := F)) (k0_pay28 (F := F)) (k0_pay32 (F := F) (k0_pay31 (iota .tc S512x512 32 [0] iota_S512x512_d0_w32) 32#32 k0_pay29 k0_pay30)) (hid1 l x a) x.x7 (colOf l.bc 4 (by decide))
/-- The scores, all times and slots. -/
def outC (l : Lay F) (x : Ins F) (a : Acc F) : Vec F S16x16 .f32 :=
  k0_pay8 (hid2 l x a) (k0_pay46 (k0_pay28 (F := F)) x.x8) (iota .tc S16x512 32 [0] iota_S16x512_d0_w32) k0_pay47
    (View.ld x.x12 (Rect.unit (s := S6x32) ![5, 0] S1x1.size inb_S6x32_S1x1_5_0))

/-! ## The bias scratch: eight columns, six of them stored -/

/-- The scratch `d` holds the six bias columns `bc`, whatever its last two columns are. -/
def Holds (bc : Vec F S512x6 .f32) (d : Vec F S512x8 .f32) : Prop :=
  ∀ (r : Fin 512) (j : Fin 6), d (ix2 (n0 := 512) (n1 := 8) r ⟨j.val, Nat.lt_of_lt_of_le j.isLt (by decide)⟩) = bc (ix2 (n0 := 512) (n1 := 6) r j)

/-- A load of one of the six columns reads that column. -/
theorem Holds.ld {bc : Vec F S512x6 .f32} {d : Vec F S512x8 .f32} (h : Holds bc d) (j : ℕ) (hj : j < 6)
    (inb : ∀ a, (![0, j] : Fin 2 → ℕ) a + S512x1.size a ≤ S512x8.size a) :
    View.ld d (Rect.unit (s := S512x8) ![0, j] S512x1.size inb) = colOf bc j hj := by
  funext y
  refine Eq.trans ?_ (h ⟨(y 0).val, (y 0).isLt⟩ ⟨j, hj⟩)
  refine congrArg d (funext fun a => ?_)
  have h1 : (y 1).val < 1 := (y 1).isLt
  match a with
  | ⟨0, _⟩ => exact Fin.ext (show 0 + 1 * (y 0).val = (y 0).val by omega)
  | ⟨1, _⟩ => exact Fin.ext (show j + 1 * (y 1).val = j by omega)

/-- The offsets of a whole matrix. -/
theorem z2 : (![0, 0] : Fin 2 → ℕ) = fun _ => 0 := by decide
/-- The offsets of a whole array of four axes. -/
theorem z4 : (![0, 0, 0, 0] : Fin 4 → ℕ) = fun _ => 0 := by decide

section views
variable {S : Shape} {e : EltTy} {sig' : RefSig} {κ : Kind} {sp : Space}

/-- A store of the whole buffer, last, leaves what it stored. -/
theorem read_whole (v : View sig' κ sp S e) (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- The same read back by a load of the whole buffer. -/
theorem readCov_whole (v : View sig' κ sp S e) {off : Fin S.rank → Nat} (h : off = fun _ => 0)
    (inb : ∀ a, off a + S.size a ≤ S.size a) (w : S.Idx → Elt F e) (L : List (View.Piece (Elt F) S e)) :
    v.readCov (Val := Elt F) (⟨Rect.unit off S.size inb, w⟩ :: L) (Rect.unit off S.size inb).toLoadRect = w := by
  rw [View.readCov_eq_canon_ld _ _ _ (fun y => ⟨_, List.mem_cons_self, View.mem_set_unit_zero h inb _⟩),
    View.canon_cons_unit_zero h, View.ld_unit_zero h]

/-- A load of the whole buffer reads its contents. -/
theorem readAt_whole' (m : Memref sig' κ sp S e) (hm : m.IsWhole) {off : Fin S.rank → Nat} (h : off = fun _ => 0)
    (inb : ∀ a, off a + S.size a ≤ S.size a) (x : S.Idx → Elt F e) :
    m.view.readAt (Elt F) (Rect.unit off S.size inb).toLoadRect (hm.unread x) = x := by
  rw [View.readAt_eq_ld, hm.read_unread, View.ld_unit_zero h]

end views

section bias
variable {sig' : RefSig} {κ : Kind} {sp : Space}

/-- After the six columns are stored the scratch holds them. -/
theorem holds_store (v : View sig' κ sp S512x8 .f32) (f : v.ty.Contents (Elt F)) (bc : Vec F S512x6 .f32)
    (inb : ∀ a, (![0, 0] : Fin 2 → ℕ) a + S512x6.size a ≤ S512x8.size a) :
    Holds bc (v.read (Elt F) (v.writes (Elt F) f [⟨Rect.unit (s := S512x8) ![0, 0] S512x6.size inb, bc⟩])) := by
  intro r j
  have e := View.read_writes_cons_emb v f (Rect.unit (s := S512x8) ![0, 0] S512x6.size inb) bc [] (ix2 (n0 := 512) (n1 := 6) r j)
  refine Eq.trans (congrArg _ (funext fun a => ?_)) e
  match a with
  | ⟨0, _⟩ => exact Fin.ext (show r.val = 0 + 1 * r.val by omega)
  | ⟨1, _⟩ => exact Fin.ext (show j.val = 0 + 1 * j.val by omega)

/-- A column of a scratch that holds the bias columns, as a load of the scratch. -/
theorem readAt_bias (m : Memref sig' κ sp S512x8 .f32) (hm : m.IsWhole) {bc : Vec F S512x6 .f32} {d : Vec F S512x8 .f32} (h : Holds bc d) (j : ℕ) (hj : j < 6)
    (inb' : ∀ a, (![0, j] : Fin 2 → ℕ) a + S512x1.size a ≤ S512x8.size a) :
    m.view.readAt (Elt F) (Rect.unit (s := S512x8) ![0, j] S512x1.size inb').toLoadRect (hm.unread d) = colOf bc j hj := by
  rw [View.readAt_eq_ld, hm.read_unread]; exact h.ld j hj inb'

/-- A column read back after the store. -/
theorem readCov_bias (v : View sig' κ sp S512x8 .f32) (bc : Vec F S512x6 .f32) (j : ℕ) (hj : j < 6)
    (inb : ∀ a, (![0, 0] : Fin 2 → ℕ) a + S512x6.size a ≤ S512x8.size a)
    (inb' : ∀ a, (![0, j] : Fin 2 → ℕ) a + S512x1.size a ≤ S512x8.size a) :
    v.readCov (Val := Elt F) [⟨Rect.unit (s := S512x8) ![0, 0] S512x6.size inb, bc⟩] (Rect.unit (s := S512x8) ![0, j] S512x1.size inb').toLoadRect = colOf bc j hj :=
  (holds_store v v.junk bc inb).ld j hj inb'

end bias

end Cert.KernelIdeal.Hand

end
-- ==== Proof.Masks.lean ====
/- The kernel's masks, read at an index: the words it compares are row and column numbers, their quotients and remainders,
   and each mask is one where a plain condition on them holds, zero elsewhere. -/
module

public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Idealize.SL.Sem

/-- A comparison bit turned into a number: one when it is set, zero when not. -/
theorem num_bit (p : Prop) [Decidable p] :
    (FloatOps.sitofp (F := Ideal) .f32 ((BitVec.ofBool (decide p)).setWidth 32) : EReal) = if p then 1 else 0 := by
  by_cases h : p
  · rw [if_pos h, decide_eq_true h]
    show (((BitVec.setWidth 32 (BitVec.ofBool true)).toInt : ℝ) : EReal) = 1
    rw [show (BitVec.setWidth 32 (BitVec.ofBool true)).toInt = 1 from by decide]
    norm_num
  · rw [if_neg h, decide_eq_false h]
    show (((BitVec.setWidth 32 (BitVec.ofBool false)).toInt : ℝ) : EReal) = 0
    rw [show (BitVec.setWidth 32 (BitVec.ofBool false)).toInt = 0 from by decide]
    norm_num

/-- An equality of words turned into a number. -/
theorem num_eq (a b : BitVec 32) :
    (FloatOps.sitofp (F := Ideal) .f32 ((IntOp.cmpi .eq a b).setWidth 32) : EReal) = if a = b then 1 else 0 :=
  Eq.trans (congrArg (fun c : BitVec 1 => (FloatOps.sitofp (F := Ideal) .f32 (c.setWidth 32) : EReal))
    (show IntOp.cmpi .eq a b = BitVec.ofBool (decide (a = b)) from rfl)) (num_bit (a = b))

/-- Two small numbers are equal exactly when their words are. -/
theorem word_eq {a b : ℕ} (ha : a < 512) (hb : b < 512) : BitVec.ofNat 32 a = BitVec.ofNat 32 b ↔ a = b := by
  refine ⟨fun h => ?_, fun h => by rw [h]⟩
  have e := congrArg BitVec.toNat h
  rw [BitVec.toNat_ofNat, BitVec.toNat_ofNat, Nat.mod_eq_of_lt (by omega), Nat.mod_eq_of_lt (by omega)] at e
  exact e

/-- The remainder as the kernel computes it, of the word `x` by the word `k`, rounding toward minus infinity. -/
def modW (k x : BitVec 32) : BitVec 32 :=
  let v := Scalar.select (Scalar.cmpi .eq k 0#32) 1#32 k
  Scalar.select
    (IntOp.andi (IntOp.xori (IntOp.cmpi .slt (IntOp.remsi .vector x v) 0#32) (Scalar.cmpi .slt v 0#32)) (IntOp.cmpi .ne (IntOp.remsi .vector x v) 0#32))
    (IntOp.addi (IntOp.remsi .vector x v) v) (IntOp.remsi .vector x v)

/-- The quotient as the kernel computes it. -/
def divW (k x : BitVec 32) : BitVec 32 :=
  Scalar.select
    (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt k 0#32)) (Scalar.extui (Scalar.cmpi .slt k 0#32))))
      (IntOp.cmpi .ne (IntOp.remsi .vector x k) 0#32))
    (IntOp.subi (IntOp.divsi .vector x k) 1#32) (IntOp.divsi .vector x k)

/-- The printed remainder by 32, on the rows. -/
theorem mod32 : ∀ r : Fin 512, modW 32#32 (BitVec.ofNat 32 r.val) = BitVec.ofNat 32 (r.val % 32) := by decide +kernel
/-- The printed quotient by 32, on the rows. -/
theorem div32 : ∀ r : Fin 512, divW 32#32 (BitVec.ofNat 32 r.val) = BitVec.ofNat 32 (r.val / 32) := by decide +kernel
/-- The printed remainder by 4. -/
theorem mod4 : ∀ r : Fin 64, modW 4#32 (BitVec.ofNat 32 r.val) = BitVec.ofNat 32 (r.val % 4) := by decide +kernel
/-- The printed quotient by 4. -/
theorem div4 : ∀ r : Fin 64, divW 4#32 (BitVec.ofNat 32 r.val) = BitVec.ofNat 32 (r.val / 4) := by decide +kernel
/-- The printed remainder by 2. -/
theorem mod2 : ∀ r : Fin 32, modW 2#32 (BitVec.ofNat 32 r.val) = BitVec.ofNat 32 (r.val % 2) := by decide +kernel
/-- The printed quotient by 2. -/
theorem div2 : ∀ r : Fin 32, divW 2#32 (BitVec.ofNat 32 r.val) = BitVec.ofNat 32 (r.val / 2) := by decide +kernel
/-- A shift by two bits is a quotient by 4. -/
theorem shr2 : ∀ r : Fin 64, IntOp.shrsi .vector (BitVec.ofNat 32 r.val) 2#32 = BitVec.ofNat 32 (r.val / 4) := by decide +kernel
/-- A shift by one bit is a quotient by 2. -/
theorem shr1 : ∀ r : Fin 32, IntOp.shrsi .vector (BitVec.ofNat 32 r.val) 1#32 = BitVec.ofNat 32 (r.val / 2) := by decide +kernel

/-- A mask of two word expressions that are the words of two small numbers. -/
theorem num_of {x y : BitVec 32} {a b : ℕ} (hx : x = BitVec.ofNat 32 a) (hy : y = BitVec.ofNat 32 b) (ha : a < 512) (hb : b < 512) :
    (FloatOps.sitofp (F := Ideal) .f32 ((IntOp.cmpi .eq x y).setWidth 32) : EReal) = if a = b then 1 else 0 := by
  rw [num_eq, hx, hy]
  exact if_congr (word_eq ha hb) rfl rfl

/-- The 512×32 and 32×512 repetition of the identity. -/
theorem rep_rows (r : Fin 512) (j : Fin 32) : (k0_pay27 (F := Ideal) (ix2 r j) : EReal) = if r.val % 32 = j.val then 1 else 0 := by
  pointwise [k0_pay27]
  exact num_of (mod32 r) rfl (by omega) (by omega)
/-- The repeating matrix at an entry. -/
theorem rep_rows' (r : Fin 512) (j : Fin 32) : (k0_pay9 (F := Ideal) (ix2 r j) : EReal) = if r.val % 32 = j.val then 1 else 0 := rep_rows r j
/-- The transposed repeating matrix at an entry. -/
theorem rep_cols (j : Fin 32) (r : Fin 512) : (k0_pay28 (F := Ideal) (ix2 j r) : EReal) = if j.val = r.val % 32 then 1 else 0 := by
  pointwise [k0_pay28]
  exact num_of rfl (mod32 r) (by omega) (by omega)

/-- The 512×512 mask of the diagonal blocks. -/
theorem same_block (r r' : Fin 512) :
    (k0_pay32 (F := Ideal) (k0_pay31 (iota .tc S512x512 32 [0] iota_S512x512_d0_w32) 32#32 k0_pay29 k0_pay30) (ix2 r r') : EReal)
      = if r.val / 32 = r'.val / 32 then 1 else 0 := by
  pointwise [k0_pay32, k0_pay31, k0_pay29, k0_pay30]
  exact num_of (div32 r) (div32 r') (by omega) (by omega)

/-- The 512×16 mask: row `r` belongs to time `r / 32`. -/
theorem at_time (r : Fin 512) (t : Fin 16) : (k0_pay34 (F := Ideal) (ix2 r t) : EReal) = if r.val / 32 = t.val then 1 else 0 := by
  pointwise [k0_pay34]
  exact num_of (div32 r) rfl (by omega) (by omega)

/-- The object masks: one where the class is not minus one. -/
theorem mask_n (x : FVec Ideal S16x8192 .f32) (t : Fin 16) (n : Fin 8192) :
    (k0_pay49 (F := Ideal) x (ix2 t n) : EReal) = if x (ix2 t n) ≠ Ideal.ofBits .f32 0xBF800000#32 then 1 else 0 := by
  pointwise [k0_pay49]
  exact num_bit _
/-- The sign mask at an entry. -/
theorem mask_s (x : FVec Ideal S16x8192 .f32) (t : Fin 16) (n : Fin 8192) :
    (k0_pay53 (F := Ideal) x (ix2 t n) : EReal) = if x (ix2 t n) ≠ Ideal.ofBits .f32 0xBF800000#32 then 1 else 0 := mask_n x t n

/-- The one-hot of the segment numbers. -/
theorem hot_n (s : IVec S1x8192 32) (b : Fin 16) (n : Fin 8192) :
    (k0_pay50 (F := Ideal) s (ix2 b n) : EReal) = if BitVec.ofNat 32 b.val = s (ix2 0 n) then 1 else 0 := by
  pointwise [k0_pay50]
  exact num_eq _ _
/-- The signs' one-hot slots at an entry. -/
theorem hot_s (s : IVec S1x8192 32) (b : Fin 16) (n : Fin 8192) :
    (k0_pay54 (F := Ideal) s (ix2 b n) : EReal) = if BitVec.ofNat 32 b.val = s (ix2 0 n) then 1 else 0 := hot_n s b n

end Cert.KernelIdeal.Hand

end
-- ==== Proof.Sums.lean ====
/- Sums against masks, over the extended reals: a sum against an indicator picks one term, and a sum over a
   product of axes against a diagonal-block indicator is the sum over one block. -/
module

public import Idealize.ShloMosaic.PureOps.Ideal.Laws
public import Mathlib.Algebra.BigOperators.Fin
public import Mathlib.Data.EReal.Operations

@[expose] public section

noncomputable section

namespace Cert.Sums

/-- A sum against the indicator of one index is the term there. -/
theorem pick {n : ℕ} (k : Fin n) (f : Fin n → EReal) : ∑ j : Fin n, (if k.val = j.val then 1 else 0) * f j = f k := by
  rw [Finset.sum_eq_single k]
  · rw [if_pos rfl, one_mul]
  · intro j _ h
    rw [if_neg (fun e => h (Fin.ext e.symm)), zero_mul]
  · intro h
    exact absurd (Finset.mem_univ k) h

/-- A sum against a one-hot column picks an entry. -/
theorem pick' {n : ℕ} (k : Fin n) (f : Fin n → EReal) : ∑ j : Fin n, f j * (if j.val = k.val then 1 else 0) = f k := by
  rw [← pick k f]
  exact Finset.sum_congr rfl fun j _ => by rw [mul_comm]; exact congrArg (· * f j) (if_congr ⟨Eq.symm, Eq.symm⟩ rfl rfl)

/-- A sum over `T * d` positions, block by block. -/
theorem blocks {M : Type*} [AddCommMonoid M] {N T d : ℕ} (hN : N = T * d) (f : Fin N → M) :
    ∑ k : Fin N, f k = ∑ t : Fin T, ∑ g : Fin d, f ⟨t.val * d + g.val, by
      subst hN
      calc t.val * d + g.val < t.val * d + d := by have := g.isLt; omega
        _ = (t.val + 1) * d := by rw [Nat.add_mul, Nat.one_mul]
        _ ≤ T * d := Nat.mul_le_mul_right d t.isLt⟩ := by
  subst hN
  rw [← Equiv.sum_comp (finProdFinEquiv (m := T) (n := d)), Fintype.sum_prod_type]
  refine Finset.sum_congr rfl fun t _ => Finset.sum_congr rfl fun g _ => congrArg f (Fin.ext ?_)
  show g.val + d * t.val = t.val * d + g.val
  rw [Nat.mul_comm, Nat.add_comm]

/-- A sum over `T * d` positions whose terms vanish off block `t` is the sum over that block. -/
theorem one_block {N T d : ℕ} (hN : N = T * d) (hd : 0 < d) (t : Fin T) (A : Fin N → EReal) (X : Fin N → EReal) :
    ∑ k : Fin N, (if t.val = k.val / d then A k else 0) * X k
      = ∑ g : Fin d, (fun k => A k * X k) ⟨t.val * d + g.val, by
          subst hN
          calc t.val * d + g.val < t.val * d + d := by have := g.isLt; omega
            _ = (t.val + 1) * d := by rw [Nat.add_mul, Nat.one_mul]
            _ ≤ T * d := Nat.mul_le_mul_right d t.isLt⟩ := by
  rw [blocks hN, Finset.sum_eq_single t]
  · refine Finset.sum_congr rfl fun g _ => ?_
    rw [if_pos]
    show t.val = (t.val * d + g.val) / d
    rw [Nat.mul_comm, Nat.mul_add_div hd, Nat.div_eq_of_lt g.isLt, Nat.add_zero]
  · intro t' _ h
    refine Finset.sum_eq_zero fun g _ => ?_
    rw [if_neg, zero_mul]
    show ¬ t.val = (t'.val * d + g.val) / d
    rw [Nat.mul_comm, Nat.mul_add_div hd, Nat.div_eq_of_lt g.isLt, Nat.add_zero]
    exact fun e => h (Fin.ext e.symm)
  · intro h
    exact absurd (Finset.mem_univ t) h

/-- The block of an index made of block and place. -/
theorem blk_div {t d g : ℕ} (hg : g < d) : (t * d + g) / d = t := by
  rw [Nat.mul_comm, Nat.mul_add_div (by omega), Nat.div_eq_of_lt hg, Nat.add_zero]
/-- The place of an index made of block and place. -/
theorem blk_mod {t d g : ℕ} (hg : g < d) : (t * d + g) % d = g := by
  rw [Nat.mul_comm, Nat.mul_add_mod, Nat.mod_eq_of_lt hg]

end Cert.Sums

end
-- ==== Proof.Spec.lean ====
/- The problem in plain mathematics over the extended reals: embeddings, masked sums per segment, and the classifier;
   and the identity by which a sum that embeds every object and takes the missing ones off again is the masked sum. -/
module

public import Idealize.ShloMosaic.PureOps.Ideal.Laws
public import Mathlib.Algebra.BigOperators.Fin
public import Mathlib.Data.EReal.Operations

@[expose] public section

noncomputable section

namespace Cert.Spec

open Idealize.ShloMosaic

/-- The number of a mask, and of a segment comparison. -/
def num (p : Prop) [Decidable p] : EReal := if p then 1 else 0
/-- The class that marks a missing object. -/
def noObj : EReal := Ideal.ofBits .f32 0xBF800000#32

/-- The problem's arguments: pedestrians, neighbours and signs with their classes and segments, and the weights. -/
structure Args where
  xp : Fin 16 → Fin 16 → Fin 4 → EReal
  xn : Fin 32768 → Fin 16 → Fin 4 → EReal
  xs : Fin 32768 → Fin 16 → Fin 2 → EReal
  cn : Fin 32768 → Fin 16 → EReal
  cs : Fin 32768 → Fin 16 → EReal
  gn : Fin 32768 → BitVec 32
  gs : Fin 32768 → BitVec 32
  wp : Fin 4 → Fin 32 → EReal
  bp : Fin 32 → EReal
  wn : Fin 4 → Fin 32 → EReal
  bn : Fin 32 → EReal
  ws : Fin 2 → Fin 32 → EReal
  bs : Fin 32 → EReal
  w1 : Fin 96 → Fin 32 → EReal
  b1 : Fin 32 → EReal
  w2 : Fin 32 → Fin 32 → EReal
  b2 : Fin 32 → EReal
  w3 : Fin 32 → EReal
  b3 : EReal

/-- One embedding: a linear layer and the rectifier. -/
def emb {D : ℕ} (x : Fin D → EReal) (w : Fin D → Fin 32 → EReal) (b : Fin 32 → EReal) (f : Fin 32) : EReal :=
  max (∑ d, x d * w d f + b f) 0

/-- The embeddings of the objects of segment `s` at time `t` that are there, summed. -/
def agg {D : ℕ} (x : Fin 32768 → Fin 16 → Fin D → EReal) (cls : Fin 32768 → Fin 16 → EReal) (seg : Fin 32768 → BitVec 32)
    (w : Fin D → Fin 32 → EReal) (b : Fin 32 → EReal) (s t : Fin 16) (f : Fin 32) : EReal :=
  ∑ n : Fin 32768, if seg n = BitVec.ofNat 32 s.val then emb (x n t) w b f * num (cls n t ≠ noObj) else 0

/-- The pedestrian features. -/
def ped (p : Args) (s t : Fin 16) (f : Fin 32) : EReal := emb (p.xp s t) p.wp p.bp f
/-- The neighbours' features. -/
def aggN (p : Args) (s t : Fin 16) (f : Fin 32) : EReal := agg p.xn p.cn p.gn p.wn p.bn s t f
/-- The signs' features. -/
def aggS (p : Args) (s t : Fin 16) (f : Fin 32) : EReal := agg p.xs p.cs p.gs p.ws p.bs s t f

/-- The features, side by side. -/
def feat (p : Args) (s t : Fin 16) (k : Fin 96) : EReal :=
  if k.val < 32 then ped p s t ⟨k.val % 32, by omega⟩ else if k.val < 64 then aggN p s t ⟨k.val % 32, by omega⟩ else aggS p s t ⟨k.val % 32, by omega⟩

/-- The first hidden layer. -/
def h1 (p : Args) (s t : Fin 16) (f : Fin 32) : EReal := max (∑ k, feat p s t k * p.w1 k f + p.b1 f) 0
/-- The second hidden layer. -/
def h2 (p : Args) (s t : Fin 16) (f : Fin 32) : EReal := max (∑ k, h1 p s t k * p.w2 k f + p.b2 f) 0
/-- The score. -/
def score (p : Args) (s t : Fin 16) : EReal := ∑ k, h2 p s t k * p.w3 k + p.b3

/-- A sum over the features is the sum over each of the three kinds. -/
theorem sum_feat (g : Fin 96 → EReal) :
    ∑ k, g k = ∑ f : Fin 32, g ⟨f.val, by omega⟩ + ∑ f : Fin 32, g ⟨32 + f.val, by omega⟩ + ∑ f : Fin 32, g ⟨64 + f.val, by omega⟩ := by
  refine (Fin.sum_univ_add (a := 64) (b := 32) g).trans (congrArg₂ _ ?_ rfl)
  exact Fin.sum_univ_add (a := 32) (b := 32) fun i => g (Fin.castAdd 32 i)

/-- The first 32 features are the pedestrian's. -/
theorem feat_ped (p : Args) (s t : Fin 16) (f : Fin 32) : feat p s t ⟨f.val, by omega⟩ = ped p s t f := by
  have e : (⟨f.val % 32, by omega⟩ : Fin 32) = f := Fin.ext (Nat.mod_eq_of_lt f.isLt)
  unfold feat
  rw [if_pos (show f.val < 32 from f.isLt)]
  exact congrArg (ped p s t) e
/-- The next 32 are the neighbours'. -/
theorem feat_aggN (p : Args) (s t : Fin 16) (f : Fin 32) : feat p s t ⟨32 + f.val, by omega⟩ = aggN p s t f := by
  have e : (⟨(32 + f.val) % 32, by omega⟩ : Fin 32) = f := Fin.ext (by show (32 + f.val) % 32 = f.val; omega)
  unfold feat
  rw [if_neg (show ¬ 32 + f.val < 32 by omega), if_pos (show 32 + f.val < 64 by omega)]
  exact congrArg (aggN p s t) e
/-- The last 32 are the signs'. -/
theorem feat_aggS (p : Args) (s t : Fin 16) (f : Fin 32) : feat p s t ⟨64 + f.val, by omega⟩ = aggS p s t f := by
  have e : (⟨(64 + f.val) % 32, by omega⟩ : Fin 32) = f := Fin.ext (by show (64 + f.val) % 32 = f.val; omega)
  unfold feat
  rw [if_neg (show ¬ 64 + f.val < 32 by omega), if_neg (show ¬ 64 + f.val < 64 by omega)]
  exact congrArg (aggS p s t) e

/-- The first layer over the three kinds of features, the weights on the left. -/
theorem h1_split (p : Args) (s t : Fin 16) (f : Fin 32) :
    h1 p s t f = max (∑ g : Fin 32, p.w1 ⟨g.val, by omega⟩ f * ped p s t g + ∑ g : Fin 32, p.w1 ⟨32 + g.val, by omega⟩ f * aggN p s t g
      + ∑ g : Fin 32, p.w1 ⟨64 + g.val, by omega⟩ f * aggS p s t g + p.b1 f) 0 := by
  unfold h1
  rw [sum_feat]
  simp only [feat_ped, feat_aggN, feat_aggS, mul_comm (p.w1 _ _)]

/-- The second layer with the weights on the left. -/
theorem h2_comm (p : Args) (s t : Fin 16) (f : Fin 32) : h2 p s t f = max (∑ g : Fin 32, p.w2 g f * h1 p s t g + p.b2 f) 0 := by
  unfold h2
  simp only [mul_comm (p.w2 _ _)]

/-- The score with the weights on the left. -/
theorem score_comm (p : Args) (s t : Fin 16) : score p s t = ∑ g : Fin 32, p.w3 g * h2 p s t g + p.b3 := by
  unfold score
  simp only [mul_comm (p.w3 _)]

/-- A sum of real numbers, as extended reals. -/
theorem coe_sum {ι : Type*} (A : Finset ι) (k : ι → ℝ) : ((∑ i ∈ A, k i : ℝ) : EReal) = ∑ i ∈ A, (k i : EReal) := by
  classical
  induction A using Finset.induction_on with
  | empty => simp
  | insert a A h ih => rw [Finset.sum_insert h, Finset.sum_insert h, EReal.coe_add, ih]

/-- Embedding every object with the missing ones' inputs zeroed, then taking the bias's rectified value off once for
    each missing one, sums the embeddings of those that are there. -/
theorem take_off {D : ℕ} (x : Fin 32768 → Fin D → EReal) (w : Fin D → EReal) (β : EReal) (hβ : β < ⊤)
    (p q : Fin 32768 → Prop) [DecidablePred p] [DecidablePred q] :
    (∑ n, max (∑ d, w d * (x n d * num (p n)) + β) 0 * num (q n)) - max β 0 * ∑ n, (1 - num (p n)) * num (q n)
      = ∑ n, if q n then max (∑ d, x n d * w d + β) 0 * num (p n) else 0 := by
  obtain ⟨r, hr⟩ : ∃ r : ℝ, max β 0 = (r : EReal) := by
    refine ⟨(max β 0).toReal, (EReal.coe_toReal ?_ ?_).symm⟩
    · exact (max_lt hβ EReal.zero_lt_top).ne
    · exact (lt_of_lt_of_le EReal.bot_lt_zero (le_max_right β 0)).ne'
  have hk : ∀ n, (1 - num (p n)) * num (q n) = ((if p n then 0 else if q n then 1 else 0 : ℝ) : EReal) := by
    intro n
    unfold num
    by_cases hp : p n
    · rw [if_pos hp, if_pos hp, show (1 - 1 : EReal) = 0 from EReal.sub_self (by decide) (by decide), zero_mul]; rfl
    · rw [if_neg hp, if_neg hp, sub_zero, one_mul]
      by_cases hq : q n
      · rw [if_pos hq, if_pos hq]; rfl
      · rw [if_neg hq, if_neg hq]; rfl
  have ht : ∀ n, max (∑ d, w d * (x n d * num (p n)) + β) 0 * num (q n)
      = (if q n then max (∑ d, x n d * w d + β) 0 * num (p n) else 0) + ((r * (if p n then 0 else if q n then 1 else 0 : ℝ) : ℝ) : EReal) := by
    intro n
    unfold num
    by_cases hq : q n
    · rw [if_pos hq, if_pos hq, mul_one]
      by_cases hp : p n
      · simp only [if_pos hp, mul_one, mul_zero, EReal.coe_zero, add_zero]
        simp only [mul_comm (w _)]
      · simp only [if_neg hp, if_pos hq, mul_zero, Finset.sum_const_zero, zero_add, mul_one, hr]
    · simp only [if_neg hq, mul_zero, ite_self, EReal.coe_zero, add_zero]
  rw [hr, Finset.sum_congr rfl fun n _ => hk n, Finset.sum_congr rfl fun n _ => ht n, Finset.sum_add_distrib, ← coe_sum, ← coe_sum,
    ← EReal.coe_mul, ← Finset.mul_sum]
  exact EReal.add_sub_cancel_right

end Cert.Spec

end
-- ==== Proof.Laid.lean ====
/- What the kernel lays out once, and what one block contributes, each read at an index. -/
module

public import proofs.«01_k».proof.Proof.Step
public import proofs.«01_k».proof.Proof.Masks
public import proofs.«01_k».proof.Proof.Sums
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe
open Idealize.SL.Sem
open Cert.Sums
open Cert.Spec (num noObj)

/-- Row `r`'s feature, and its time. -/
def fOf (r : Fin 512) : Fin 32 := ⟨r.val % 32, Nat.mod_lt _ (by decide)⟩
/-- The time of a row. -/
def tOf (r : Fin 512) : Fin 16 := ⟨r.val / 32, by have := r.isLt; omega⟩
/-- The row of a time and a feature. -/
def rowOf (t : Fin 16) (f : Fin 32) : Fin 512 := ⟨t.val * 32 + f.val, by have := t.isLt; have := f.isLt; omega⟩
/-- The feature of a time and feature's row. -/
theorem fOf_row (t : Fin 16) (f : Fin 32) : fOf (rowOf t f) = f := Fin.ext (blk_mod f.isLt)
/-- The time of a time and feature's row. -/
theorem tOf_row (t : Fin 16) (f : Fin 32) : tOf (rowOf t f) = t := Fin.ext (blk_div f.isLt)

/-- A product with the repeated identity on the left repeats the rows. -/
theorem rep_left (r : Fin 512) (X : Fin 32 → EReal) : ∑ j : Fin 32, (k0_pay27 (F := Ideal) (ix2 r j) : EReal) * X j = X (fOf r) := by
  rw [← pick (fOf r) X]
  exact Finset.sum_congr rfl fun j _ => by rw [rep_rows]; rfl

/-- A product with the repeated identity on the right repeats the columns. -/
theorem rep_right (r : Fin 512) (X : Fin 32 → EReal) : ∑ j : Fin 32, X j * (k0_pay28 (F := Ideal) (ix2 j r) : EReal) = X (fOf r) := by
  rw [← pick' (fOf r) X]
  exact Finset.sum_congr rfl fun j _ => by rw [rep_cols]; rfl

/-- The bias columns: column `j` repeats row `j` of the stack. -/
theorem biasCols_at (b : FVec Ideal S6x32 .f32) (r : Fin 512) (j : Fin 6) : (biasCols (F := Ideal) b (ix2 r j) : EReal) = b (ix2 j (fOf r)) := by
  unfold biasCols
  pointwise [k0_pay10]
  exact rep_left r fun k => b (ix2 j k)

/-- A product with a zero-or-one factor. -/
theorem mul_ind (p : Prop) [Decidable p] (a : EReal) : a * (if p then 1 else 0) = if p then a else 0 := by
  by_cases h : p
  · rw [if_pos h, if_pos h, mul_one]
  · rw [if_neg h, if_neg h, mul_zero]

/-- A layer of 4 inputs laid out as a block diagonal: entry `(r, k)` is the weight of input `k % 4` on row `r`'s feature when
    they are of the same time, zero otherwise. -/
theorem lay4 (r : Fin 512) (k : Fin 64) (w : Fin 4 → Fin 32 → EReal) :
    (∑ j : Fin 4, (∑ i : Fin 32, (k0_pay27 (F := Ideal) (ix2 r i) : EReal) * w j i)
        * (FloatOps.sitofp (F := Ideal) .f32 ((IntOp.cmpi .eq (BitVec.ofNat 32 j.val) (modW 4#32 (BitVec.ofNat 32 k.val))).setWidth 32) : EReal))
      * (FloatOps.sitofp (F := Ideal) .f32 ((IntOp.cmpi .eq (divW 32#32 (BitVec.ofNat 32 r.val)) (divW 4#32 (BitVec.ofNat 32 k.val))).setWidth 32) : EReal)
      = if (tOf r).val = k.val / 4 then w ⟨k.val % 4, Nat.mod_lt _ (by decide)⟩ (fOf r) else 0 := by
  rw [num_of (div32 r) (div4 k) (by omega) (by omega), mul_ind]
  refine if_congr Iff.rfl ?_ rfl
  rw [← pick' (⟨k.val % 4, Nat.mod_lt _ (by decide)⟩ : Fin 4) fun j => w j (fOf r)]
  refine Finset.sum_congr rfl fun j _ => ?_
  rw [rep_left r (w j), num_of rfl (mod4 k) (by omega) (by omega)]

/-- A layer of 2 inputs laid out as a block diagonal: entry `(r, k)` is the weight of input `k % 2` on row `r`'s feature when
    they are of the same time, zero otherwise. -/
theorem lay2 (r : Fin 512) (k : Fin 32) (w : Fin 2 → Fin 32 → EReal) :
    (∑ j : Fin 2, (∑ i : Fin 32, (k0_pay27 (F := Ideal) (ix2 r i) : EReal) * w j i)
        * (FloatOps.sitofp (F := Ideal) .f32 ((IntOp.cmpi .eq (BitVec.ofNat 32 j.val) (modW 2#32 (BitVec.ofNat 32 k.val))).setWidth 32) : EReal))
      * (FloatOps.sitofp (F := Ideal) .f32 ((IntOp.cmpi .eq (divW 32#32 (BitVec.ofNat 32 r.val)) (divW 2#32 (BitVec.ofNat 32 k.val))).setWidth 32) : EReal)
      = if (tOf r).val = k.val / 2 then w ⟨k.val % 2, Nat.mod_lt _ (by decide)⟩ (fOf r) else 0 := by
  rw [num_of (div32 r) (div2 k) (by omega) (by omega), mul_ind]
  refine if_congr Iff.rfl ?_ rfl
  rw [← pick' (⟨k.val % 2, Nat.mod_lt _ (by decide)⟩ : Fin 2) fun j => w j (fOf r)]
  refine Finset.sum_congr rfl fun j _ => ?_
  rw [rep_left r (w j), num_of rfl (mod2 k) (by omega) (by omega)]

/-- The neighbours' layer, and the signs'. -/
theorem diagN_at (w : FVec Ideal S4x32 .f32) (r : Fin 512) (k : Fin 64) :
    (diagN (F := Ideal) w (ix2 r k) : EReal) = if (tOf r).val = k.val / 4 then w (ix2 ⟨k.val % 4, Nat.mod_lt _ (by decide)⟩ (fOf r)) else 0 := by
  unfold diagN
  pointwise [k0_pay19, k0_pay15, k0_pay11, k0_pay12, k0_pay13, k0_pay14, k0_pay16, k0_pay17, k0_pay18]
  exact lay4 r k fun j i => w (ix2 j i)
/-- The laid-out sign weights at an entry. -/
theorem diagS_at (w : FVec Ideal S2x32 .f32) (r : Fin 512) (k : Fin 32) :
    (diagS (F := Ideal) w (ix2 r k) : EReal) = if (tOf r).val = k.val / 2 then w (ix2 ⟨k.val % 2, Nat.mod_lt _ (by decide)⟩ (fOf r)) else 0 := by
  unfold diagS
  pointwise [k0_pay48, k0_pay22, k0_pay20, k0_pay21, k0_pay23, k0_pay24, k0_pay25, k0_pay26]
  exact lay2 r k fun j i => w (ix2 j i)

/-- The pedestrians' features. -/
theorem outP_at (l : Lay Ideal) (x : Ins Ideal) (r : Fin 512) (b : Fin 16) :
    (outP l x (ix2 r b) : EReal) = max ((∑ d : Fin 4, (show EReal from x.x10 (ix2 d (fOf r))) * (show EReal from x.x13 (ix2 ⟨(tOf r).val * 4 + d.val, by have := (tOf r).isLt; omega⟩ b)))
      + (show EReal from l.bc (ix2 r 2))) 0 := by
  unfold outP
  pointwise [k0_pay43, k0_pay39, k0_pay40, k0_pay41, k0_pay42, colOf]
  refine congrArg (fun s : EReal => max (s + (show EReal from l.bc (ix2 r 2))) 0) ?_
  refine Eq.trans (Finset.sum_congr rfl fun k _ => congrArg (fun s : EReal => s * (show EReal from x.x13 (ix2 k b))) (lay4 r k fun j i => x.x10 (ix2 j i))) ?_
  rw [one_block (N := 64) (T := 16) (d := 4) rfl (by decide) (tOf r) (fun k => (show EReal from x.x10 (ix2 ⟨k.val % 4, Nat.mod_lt _ (by decide)⟩ (fOf r)))) fun k => (show EReal from x.x13 (ix2 k b))]
  refine Finset.sum_congr rfl fun d _ => ?_
  have e : (⟨((tOf r).val * 4 + d.val) % 4, Nat.mod_lt _ (by decide)⟩ : Fin 4) = d := Fin.ext (blk_mod d.isLt)
  dsimp only
  rw [e]

/-- A 32×32 layer laid out as a block diagonal. -/
theorem lay32 (r r' : Fin 512) (w : Fin 32 → Fin 32 → EReal) :
    (∑ j : Fin 32, (∑ i : Fin 32, (k0_pay27 (F := Ideal) (ix2 r i) : EReal) * w i j) * (k0_pay28 (F := Ideal) (ix2 j r') : EReal))
      * (k0_pay32 (F := Ideal) (k0_pay31 (iota .tc S512x512 32 [0] iota_S512x512_d0_w32) 32#32 k0_pay29 k0_pay30) (ix2 r r') : EReal)
      = if (tOf r).val = r'.val / 32 then w (fOf r) ⟨r'.val % 32, Nat.mod_lt _ (by decide)⟩ else 0 := by
  rw [same_block, mul_ind]
  refine if_congr Iff.rfl ?_ rfl
  rw [rep_right r' fun j => ∑ i : Fin 32, (k0_pay27 (F := Ideal) (ix2 r i) : EReal) * w i j, rep_left r fun i => w i (fOf r')]
  rfl

/-- A product with it applies the layer to the rows of the same time. -/
theorem lay32_sum (r : Fin 512) (w : Fin 32 → Fin 32 → EReal) (X : Fin 512 → EReal) :
    ∑ r' : Fin 512, (∑ j : Fin 32, (∑ i : Fin 32, (k0_pay27 (F := Ideal) (ix2 r i) : EReal) * w i j) * (k0_pay28 (F := Ideal) (ix2 j r') : EReal))
      * (k0_pay32 (F := Ideal) (k0_pay31 (iota .tc S512x512 32 [0] iota_S512x512_d0_w32) 32#32 k0_pay29 k0_pay30) (ix2 r r') : EReal) * X r'
      = ∑ g : Fin 32, w (fOf r) g * X (rowOf (tOf r) g) := by
  refine Eq.trans (Finset.sum_congr rfl fun r' _ => congrArg (fun s : EReal => s * X r') (lay32 r r' w)) ?_
  rw [one_block (N := 512) (T := 16) (d := 32) rfl (by decide) (tOf r) (fun k => w (fOf r) ⟨k.val % 32, Nat.mod_lt _ (by decide)⟩) X]
  refine Finset.sum_congr rfl fun g _ => ?_
  have e : (⟨((tOf r).val * 32 + g.val) % 32, Nat.mod_lt _ (by decide)⟩ : Fin 32) = g := Fin.ext (blk_mod g.isLt)
  dsimp only
  rw [e]
  rfl

/-- The first layer: its three parts applied to the three features of the same time. -/
theorem hid1_at (l : Lay Ideal) (x : Ins Ideal) (a : Acc Ideal) (r : Fin 512) (b : Fin 16) :
    (hid1 l x a (ix2 r b) : EReal) = max (∑ g : Fin 32, (show EReal from x.x6 (ix2 (fOf r) ⟨g.val, by omega⟩)) * (show EReal from outP l x (ix2 (rowOf (tOf r) g) b))
      + ∑ g : Fin 32, (show EReal from x.x6 (ix2 (fOf r) ⟨32 + g.val, by omega⟩)) * (show EReal from outN l a (ix2 (rowOf (tOf r) g) b))
      + ∑ g : Fin 32, (show EReal from x.x6 (ix2 (fOf r) ⟨64 + g.val, by omega⟩)) * (show EReal from outS l a (ix2 (rowOf (tOf r) g) b))
      + (show EReal from l.bc (ix2 r 3))) 0 := by
  unfold hid1
  pointwise [k0_pay44, k0_pay33, colOf]
  exact congrArg (fun s : EReal => max (s + (show EReal from l.bc (ix2 r 3))) 0)
    (congrArg₂ (fun s s' : EReal => s + s')
      (congrArg₂ (fun s s' : EReal => s + s')
        (lay32_sum r (fun i g => x.x6 (ix2 i ⟨g.val, by omega⟩)) fun r' => outP l x (ix2 r' b))
        (lay32_sum r (fun i g => x.x6 (ix2 i ⟨32 + g.val, by omega⟩)) fun r' => outN l a (ix2 r' b)))
      (lay32_sum r (fun i g => x.x6 (ix2 i ⟨64 + g.val, by omega⟩)) fun r' => outS l a (ix2 r' b)))

/-- The second layer. -/
theorem hid2_at (l : Lay Ideal) (x : Ins Ideal) (a : Acc Ideal) (r : Fin 512) (b : Fin 16) :
    (hid2 l x a (ix2 r b) : EReal) = max (∑ g : Fin 32, (show EReal from x.x7 (ix2 g (fOf r))) * (show EReal from hid1 l x a (ix2 (rowOf (tOf r) g) b))
      + (show EReal from l.bc (ix2 r 4))) 0 := by
  unfold hid2
  pointwise [k0_pay45, colOf]
  exact congrArg (fun s : EReal => max (s + (show EReal from l.bc (ix2 r 4))) 0)
    (lay32_sum r (fun i g => x.x7 (ix2 g i)) fun r' => hid1 l x a (ix2 r' b))

/-- The score: the last layer applied to the rows of time `t`. -/
theorem outC_at (l : Lay Ideal) (x : Ins Ideal) (a : Acc Ideal) (t : Fin 16) (b : Fin 16) :
    (outC l x a (ix2 t b) : EReal) = ∑ g : Fin 32, (show EReal from x.x8 (ix2 0 g)) * (show EReal from hid2 l x a (ix2 (rowOf t g) b)) + (show EReal from x.x12 (ix2 5 0)) := by
  unfold outC
  pointwise [k0_pay8, k0_pay46, k0_pay47]
  refine congrArg (fun s : EReal => s + (show EReal from x.x12 (ix2 5 0))) ?_
  have e : ∀ r' : Fin 512, (∑ j : Fin 32, (show EReal from x.x8 (ix2 0 j)) * (k0_pay28 (F := Ideal) (ix2 j r') : EReal))
      * (FloatOps.sitofp (F := Ideal) .f32 ((IntOp.cmpi .eq (BitVec.ofNat 32 t.val) (divW 32#32 (BitVec.ofNat 32 r'.val))).setWidth 32) : EReal)
      = if t.val = r'.val / 32 then (show EReal from x.x8 (ix2 0 (fOf r'))) else 0 := fun r' => by
    rw [num_of rfl (div32 r') (by omega) (by omega), mul_ind, rep_right r' fun j => (show EReal from x.x8 (ix2 0 j))]
  refine Eq.trans (Finset.sum_congr rfl fun r' _ => congrArg (fun s : EReal => s * (show EReal from hid2 l x a (ix2 r' b))) (e r')) ?_
  rw [one_block (N := 512) (T := 16) (d := 32) rfl (by decide) t (fun r' => (show EReal from x.x8 (ix2 0 (fOf r')))) fun r' => (show EReal from hid2 l x a (ix2 r' b))]
  refine Finset.sum_congr rfl fun g _ => ?_
  have e : fOf (rowOf t g) = g := fOf_row t g
  exact congrArg (fun i : Fin 32 => (show EReal from x.x8 (ix2 0 i)) * (show EReal from hid2 l x a (ix2 (rowOf t g) b))) e

/-! ## One block's contribution -/

/-- A sum of 4 inputs at 16 times against the weights of one time. -/
theorem timed4 (t : Fin 16) (w : Fin 4 → EReal) (X : Fin 16 → Fin 4 → EReal) :
    ∑ k : Fin 64, (if t.val = k.val / 4 then w ⟨k.val % 4, Nat.mod_lt _ (by decide)⟩ else 0) * X ⟨k.val / 4, by omega⟩ ⟨k.val % 4, Nat.mod_lt _ (by decide)⟩
      = ∑ d : Fin 4, w d * X t d := by
  rw [one_block (N := 64) (T := 16) (d := 4) rfl (by decide) t (fun k => w ⟨k.val % 4, Nat.mod_lt _ (by decide)⟩) fun k => X ⟨k.val / 4, by omega⟩ ⟨k.val % 4, Nat.mod_lt _ (by decide)⟩]
  refine Finset.sum_congr rfl fun d _ => ?_
  have e1 : (⟨(t.val * 4 + d.val) % 4, Nat.mod_lt _ (by decide)⟩ : Fin 4) = d := Fin.ext (blk_mod d.isLt)
  have e2 : (⟨(t.val * 4 + d.val) / 4, by have := t.isLt; omega⟩ : Fin 16) = t := Fin.ext (blk_div d.isLt)
  dsimp only
  rw [e1, e2]

/-- One block's contribution to the neighbours' sums: over the block's objects of segment `b`, the rectified layer of the masked object. -/
theorem featN_at (w : FVec Ideal S4x32 .f32) (bc : FVec Ideal S512x6 .f32) (x : Ins Ideal) (r : Fin 512) (b : Fin 16) :
    (featN (F := Ideal) (diagN w) bc x (ix2 r b) : EReal) = ∑ n : Fin 8192,
      max (∑ d : Fin 4, (show EReal from w (ix2 d (fOf r))) * ((show EReal from x.x0 (ix4 (tOf r) ⟨n.val / 128, by omega⟩ d ⟨n.val % 128, Nat.mod_lt _ (by decide)⟩)) * num ((show EReal from x.x1 (ix2 (tOf r) n)) ≠ noObj))
        + (show EReal from bc (ix2 r 0))) 0 * num (BitVec.ofNat 32 b.val = x.x2 (ix2 0 n)) := by
  unfold featN
  pointwise [k0_pay51, colOf]
  refine Finset.sum_congr rfl fun n _ => ?_
  refine congrArg₂ (fun s s' : EReal => max (s + (show EReal from bc (ix2 r 0))) 0 * s') ?_ (hot_n x.x2 b n)
  have e : ∀ k : Fin 64, (∑ t : Fin 16, (FloatOps.sitofp (F := Ideal) .f32 ((IntOp.cmpi .eq (IntOp.shrsi .vector (BitVec.ofNat 32 k.val) 2#32) (BitVec.ofNat 32 t.val)).setWidth 32) : EReal)
        * (k0_pay49 (F := Ideal) x.x1 (ix2 t n) : EReal)) = num ((show EReal from x.x1 (ix2 (⟨k.val / 4, by omega⟩ : Fin 16) n)) ≠ noObj) := fun k => by
    refine Eq.trans ?_ (mask_n x.x1 (⟨k.val / 4, by omega⟩ : Fin 16) n)
    rw [← pick (⟨k.val / 4, by omega⟩ : Fin 16) fun t => (k0_pay49 (F := Ideal) x.x1 (ix2 t n) : EReal)]
    refine Finset.sum_congr rfl fun t _ => ?_
    rw [num_of (shr2 k) rfl (by omega) (by omega)]
  refine Eq.trans (Finset.sum_congr rfl fun k _ => congrArg₂ (fun s s' : EReal => s * ((show EReal from x.x0 (ix4 ⟨k.val / 4, by omega⟩ ⟨n.val / 128, by omega⟩ ⟨k.val % 4, Nat.mod_lt _ (by decide)⟩ ⟨n.val % 128, Nat.mod_lt _ (by decide)⟩)) * s')) (diagN_at w r k) (e k)) ?_
  exact timed4 (tOf r) (fun d => (show EReal from w (ix2 d (fOf r)))) fun t d => (show EReal from x.x0 (ix4 t ⟨n.val / 128, by omega⟩ d ⟨n.val % 128, Nat.mod_lt _ (by decide)⟩)) * num ((show EReal from x.x1 (ix2 t n)) ≠ noObj)

/-- A sum of 2 inputs at 16 times against the weights of one time. -/
theorem timed2 (t : Fin 16) (w : Fin 2 → EReal) (X : Fin 16 → Fin 2 → EReal) :
    ∑ k : Fin 32, (if t.val = k.val / 2 then w ⟨k.val % 2, Nat.mod_lt _ (by decide)⟩ else 0) * X ⟨k.val / 2, by omega⟩ ⟨k.val % 2, Nat.mod_lt _ (by decide)⟩
      = ∑ d : Fin 2, w d * X t d := by
  rw [one_block (N := 32) (T := 16) (d := 2) rfl (by decide) t (fun k => w ⟨k.val % 2, Nat.mod_lt _ (by decide)⟩) fun k => X ⟨k.val / 2, by omega⟩ ⟨k.val % 2, Nat.mod_lt _ (by decide)⟩]
  refine Finset.sum_congr rfl fun d _ => ?_
  have e1 : (⟨(t.val * 2 + d.val) % 2, Nat.mod_lt _ (by decide)⟩ : Fin 2) = d := Fin.ext (blk_mod d.isLt)
  have e2 : (⟨(t.val * 2 + d.val) / 2, by have := t.isLt; omega⟩ : Fin 16) = t := Fin.ext (blk_div d.isLt)
  dsimp only
  rw [e1, e2]

/-- One block's contribution to the signs' sums: over the block's objects of segment `b`, the rectified layer of the masked object. -/
theorem featS_at (w : FVec Ideal S2x32 .f32) (bc : FVec Ideal S512x6 .f32) (x : Ins Ideal) (r : Fin 512) (b : Fin 16) :
    (featS (F := Ideal) (diagS w) bc x (ix2 r b) : EReal) = ∑ n : Fin 8192,
      max (∑ d : Fin 2, (show EReal from w (ix2 d (fOf r))) * ((show EReal from x.x3 (ix4 (tOf r) ⟨n.val / 128, by omega⟩ d ⟨n.val % 128, Nat.mod_lt _ (by decide)⟩)) * num ((show EReal from x.x4 (ix2 (tOf r) n)) ≠ noObj))
        + (show EReal from bc (ix2 r 1))) 0 * num (BitVec.ofNat 32 b.val = x.x5 (ix2 0 n)) := by
  unfold featS
  pointwise [k0_pay55, colOf]
  refine Finset.sum_congr rfl fun n _ => ?_
  refine congrArg₂ (fun s s' : EReal => max (s + (show EReal from bc (ix2 r 1))) 0 * s') ?_ (hot_s x.x5 b n)
  have e : ∀ k : Fin 32, (∑ t : Fin 16, (FloatOps.sitofp (F := Ideal) .f32 ((IntOp.cmpi .eq (IntOp.shrsi .vector (BitVec.ofNat 32 k.val) 1#32) (BitVec.ofNat 32 t.val)).setWidth 32) : EReal)
        * (k0_pay53 (F := Ideal) x.x4 (ix2 t n) : EReal)) = num ((show EReal from x.x4 (ix2 (⟨k.val / 2, by omega⟩ : Fin 16) n)) ≠ noObj) := fun k => by
    refine Eq.trans ?_ (mask_s x.x4 (⟨k.val / 2, by omega⟩ : Fin 16) n)
    rw [← pick (⟨k.val / 2, by omega⟩ : Fin 16) fun t => (k0_pay53 (F := Ideal) x.x4 (ix2 t n) : EReal)]
    refine Finset.sum_congr rfl fun t _ => ?_
    rw [num_of (shr1 k) rfl (by omega) (by omega)]
  refine Eq.trans (Finset.sum_congr rfl fun k _ => congrArg₂ (fun s s' : EReal => s * ((show EReal from x.x3 (ix4 ⟨k.val / 2, by omega⟩ ⟨n.val / 128, by omega⟩ ⟨k.val % 2, Nat.mod_lt _ (by decide)⟩ ⟨n.val % 128, Nat.mod_lt _ (by decide)⟩)) * s')) (diagS_at w r k) (e k)) ?_
  exact timed2 (tOf r) (fun d => (show EReal from w (ix2 d (fOf r)))) fun t d => (show EReal from x.x3 (ix4 t ⟨n.val / 128, by omega⟩ d ⟨n.val % 128, Nat.mod_lt _ (by decide)⟩)) * num ((show EReal from x.x4 (ix2 t n)) ≠ noObj)

/-- One block's contribution to the counts: the missing objects of segment `b` at time `t`. -/
theorem cntN_at (x : Ins Ideal) (t : Fin 16) (b : Fin 16) :
    (cntN x (ix2 t b) : EReal) = ∑ n : Fin 8192, (1 - num ((show EReal from x.x1 (ix2 t n)) ≠ noObj)) * num (BitVec.ofNat 32 b.val = x.x2 (ix2 0 n)) := by
  unfold cntN
  pointwise [k0_pay52]
  exact Finset.sum_congr rfl fun n _ => congrArg₂ (fun s s' : EReal => (1 - s) * s') (mask_n x.x1 t n) (hot_n x.x2 b n)
/-- A block's count of masked signs at an entry. -/
theorem cntS_at (x : Ins Ideal) (t : Fin 16) (b : Fin 16) :
    (k0_pay1 (k0_pay53 x.x4) (k0_pay54 x.x5) (k0_pay56 (F := Ideal)) (ix2 t b) : EReal) = ∑ n : Fin 8192, (1 - num ((show EReal from x.x4 (ix2 t n)) ≠ noObj)) * num (BitVec.ofNat 32 b.val = x.x5 (ix2 0 n)) := by
  pointwise [k0_pay1, k0_pay56]
  exact Finset.sum_congr rfl fun n _ => congrArg₂ (fun s s' : EReal => (1 - s) * s') (mask_s x.x4 t n) (hot_s x.x5 b n)

/-- The results: the sums with the missing objects' share, a rectified bias each, taken out. -/
theorem outN_at (l : Lay Ideal) (a : Acc Ideal) (r : Fin 512) (b : Fin 16) :
    (outN l a (ix2 r b) : EReal) = (show EReal from a.fn (ix2 r b)) - max (show EReal from l.bc (ix2 r 0)) 0 * (show EReal from a.cn (ix2 (tOf r) b)) := by
  unfold outN
  pointwise [k0_pay37, k0_pay35, colOf]
  refine congrArg (fun s : EReal => (show EReal from a.fn (ix2 r b)) - s) ?_
  rw [← pick (tOf r) fun t => max (show EReal from l.bc (ix2 r 0)) 0 * (show EReal from a.cn (ix2 t b))]
  refine Finset.sum_congr rfl fun t _ => ?_
  rw [at_time, mul_comm (max _ _) _, mul_assoc]
  rfl
/-- The signs' corrected sums at an entry. -/
theorem outS_at (l : Lay Ideal) (a : Acc Ideal) (r : Fin 512) (b : Fin 16) :
    (outS l a (ix2 r b) : EReal) = (show EReal from a.fs (ix2 r b)) - max (show EReal from l.bc (ix2 r 1)) 0 * (show EReal from a.cs (ix2 (tOf r) b)) := by
  unfold outS
  pointwise [k0_pay38, k0_pay36, colOf]
  refine congrArg (fun s : EReal => (show EReal from a.fs (ix2 r b)) - s) ?_
  rw [← pick (tOf r) fun t => max (show EReal from l.bc (ix2 r 1)) 0 * (show EReal from a.cs (ix2 t b))]
  refine Finset.sum_congr rfl fun t _ => ?_
  rw [at_time, mul_comm (max _ _) _, mul_assoc]
  rfl

/-- The accumulators, an entry at a time. -/
theorem accFirst_at (l : Lay Ideal) (x : Ins Ideal) (t b : Fin 16) :
    (accFirst l x).cn (ix2 t b) = cntN x (ix2 t b) ∧ (accFirst l x).cs (ix2 t b) = k0_pay1 (k0_pay53 x.x4) (k0_pay54 x.x5) (k0_pay56 (F := Ideal)) (ix2 t b) := by
  constructor
  · show k0_pay2 (cntN x) (ix2 t b) = _
    pointwise [k0_pay2]
  · show k0_pay3 (k0_pay53 x.x4) (k0_pay54 x.x5) (k0_pay56 (F := Ideal)) (ix2 t b) = _
    pointwise [k0_pay3]
/-- A step adds the block's sums. -/
theorem accNext_f (l : Lay Ideal) (x : Ins Ideal) (a : Acc Ideal) (r : Fin 512) (b : Fin 16) :
    (accNext l x a).fn (ix2 r b) = (show EReal from a.fn (ix2 r b)) + (show EReal from featN l.dn l.bc x (ix2 r b))
      ∧ (accNext l x a).fs (ix2 r b) = (show EReal from a.fs (ix2 r b)) + (show EReal from featS l.ds l.bc x (ix2 r b)) := by
  constructor
  · show k0_pay4 (featN l.dn l.bc x) a.fn (ix2 r b) = _
    pointwise [k0_pay4]
  · show k0_pay5 (featS l.ds l.bc x) a.fs (ix2 r b) = _
    pointwise [k0_pay5]
/-- A step adds the block's counts. -/
theorem accNext_c (l : Lay Ideal) (x : Ins Ideal) (a : Acc Ideal) (t : Fin 16) (b : Fin 16) :
    (accNext l x a).cn (ix2 t b) = (show EReal from a.cn (ix2 t b)) + (show EReal from cntN x (ix2 t b))
      ∧ (accNext l x a).cs (ix2 t b) = (show EReal from a.cs (ix2 t b)) + (show EReal from k0_pay1 (k0_pay53 x.x4) (k0_pay54 x.x5) (k0_pay56 (F := Ideal)) (ix2 t b)) := by
  constructor
  · show k0_pay6 (cntN x) a.cn (ix2 t b) = _
    pointwise [k0_pay6]
  · show k0_pay7 (k0_pay53 x.x4) (k0_pay54 x.x5) (k0_pay56 (F := Ideal)) a.cs (ix2 t b) = _
    pointwise [k0_pay7]

end Cert.KernelIdeal.Hand

end
-- ==== Proof.RunA.lean ====
/- The kernel's body at the first point: the weights are laid out and the accumulators stored fresh. -/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point: the weights are laid out and the accumulators stored fresh: from the input blocks and the buffers as the point finds them to the buffers as it leaves them. -/
theorem runA (c : Dev nD) (i : grid0.Coords) (arg1 : Memref sig .tc .vmem S16x64x4x128 .f32) (harg1 : arg1.IsWhole) (arg2 : Memref sig .tc .vmem S16x8192 .f32) (harg2 : arg2.IsWhole) (arg3 : Memref sig .tc .vmem S1x8192 .i32) (harg3 : arg3.IsWhole) (arg4 : Memref sig .tc .vmem S16x64x2x128 .f32) (harg4 : arg4.IsWhole) (arg5 : Memref sig .tc .vmem S16x8192 .f32) (harg5 : arg5.IsWhole) (arg6 : Memref sig .tc .vmem S1x8192 .i32) (harg6 : arg6.IsWhole) (arg7 : Memref sig .tc .vmem S32x96 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S4x32 .f32) (harg10 : arg10.IsWhole) (arg11 : Memref sig .tc .vmem S4x32 .f32) (harg11 : arg11.IsWhole) (arg12 : Memref sig .tc .vmem S2x32 .f32) (harg12 : arg12.IsWhole) (arg13 : Memref sig .tc .vmem S6x32 .f32) (harg13 : arg13.IsWhole) (arg14 : Memref sig .tc .vmem S64x16 .f32) (harg14 : arg14.IsWhole) (arg15 : Memref sig .tc .vmem S512x16 .f32) (harg15 : arg15.IsWhole) (arg16 : Memref sig .tc .vmem S512x16 .f32) (harg16 : arg16.IsWhole) (arg17 : Memref sig .tc .vmem S512x16 .f32) (harg17 : arg17.IsWhole) (arg18 : Memref sig .tc .vmem S16x16 .f32) (harg18 : arg18.IsWhole) (arg19 : Memref sig .tc .vmem S16x16 .f32) (harg19 : arg19.IsWhole) (arg20 : Memref sig .tc .vmem S16x16 .f32) (harg20 : arg20.IsWhole) (arg21 : Memref sig .tc .vmem S512x64 .f32) (harg21 : arg21.IsWhole) (arg22 : Memref sig .tc .vmem S512x32 .f32) (harg22 : arg22.IsWhole) (arg23 : Memref sig .tc .vmem S512x8 .f32) (harg23 : arg23.IsWhole)
    (hc0 : isFirst i) (hc1 : isFresh i) (hc2 : ¬isLater i) (hc3 : ¬isLast i) (x : Ins F) (xi16 : Vec F S512x16 .f32) (xi17 : Vec F S16x16 .f32) (E : Set ℕ) (K : PUnit → sProp 𝕄) :
        iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ (∃ d, owns (c : Thread nD τ) arg15 fullShare d) ∗ (∃ d, owns (c : Thread nD τ) arg16 fullShare d) ∗ owns (c : Thread nD τ) arg17 fullShare xi16 ∗ owns (c : Thread nD τ) arg18 fullShare xi17 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ owns (c : Thread nD τ) arg15 fullShare (accFirst (layOf x) x).fn ∗ owns (c : Thread nD τ) arg16 fullShare (accFirst (layOf x) x).fs ∗ owns (c : Thread nD τ) arg17 fullShare xi16 ∗ owns (c : Thread nD τ) arg18 fullShare xi17 ∗ owns (c : Thread nD τ) arg19 fullShare (accFirst (layOf x) x).cn ∗ owns (c : Thread nD τ) arg20 fullShare (accFirst (layOf x) x).cs ∗ owns (c : Thread nD τ) arg21 fullShare (diagN x.x9) ∗ owns (c : Thread nD τ) arg22 fullShare (diagS x.x11) ∗ (∃ d, ⌜Holds (biasCols x.x12) d⌝ ∗ owns (c : Thread nD τ) arg23 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part12_eq_skeleton, k0_part1_eq_skeleton, k0_part2_eq_skeleton, k0_part3_eq_skeleton, k0_part4_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg17.eq_unread hf17; obtain rfl := harg18.eq_unread hf18
  sl_exec (disch := first | sl_exact hc0 | sl_exact hc1 | sl_exact hc2 | sl_exact hc3)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; exact harg9.read_unread _
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  isplitl [H13]
  · iexists _; isplitr; swap; iexact H13
    ipureintro; exact harg13.read_unread _
  isplitl [H14]
  · iexists _; isplitr; swap; iexact H14
    ipureintro; exact harg14.read_unread _
  isplitl [H15]
  · iexists _; isplitr; swap; iexact H15
    ipureintro
    sl_unfold_run_names
    refine (read_whole _ _ z2 _ _ _).trans ?_
    unfold accFirst layOf featN diagN biasCols
    rw [readCov_whole arg21.view z2, readCov_bias arg23.view _ 0 (by decide), readAt_whole' arg2 harg2 z2 _ _, readAt_whole' arg1 harg1 z4 _ _, readAt_whole' arg3 harg3 z2 _ _, readAt_whole' arg10 harg10 z2 _ _, readAt_whole' arg13 harg13 z2 _ _]
  isplitl [H16]
  · iexists _; isplitr; swap; iexact H16
    ipureintro
    sl_unfold_run_names
    refine (read_whole _ _ z2 _ _ _).trans ?_
    unfold accFirst layOf featS diagS biasCols
    rw [readCov_whole arg22.view z2, readCov_bias arg23.view _ 1 (by decide), readAt_whole' arg5 harg5 z2 _ _, readAt_whole' arg4 harg4 z4 _ _, readAt_whole' arg6 harg6 z2 _ _, readAt_whole' arg12 harg12 z2 _ _, readAt_whole' arg13 harg13 z2 _ _]
  isplitl [H17]
  · iexists _; isplitr; swap; iexact H17
    ipureintro; exact harg17.read_unread _
  isplitl [H18]
  · iexists _; isplitr; swap; iexact H18
    ipureintro; exact harg18.read_unread _
  isplitl [H19]
  · iexists _; isplitr; swap; iexact H19
    ipureintro
    sl_unfold_run_names
    refine (read_whole _ _ z2 _ _ _).trans ?_
    unfold accFirst cntN
    rw [readAt_whole' arg2 harg2 z2 _ _, readAt_whole' arg3 harg3 z2 _ _]
  isplitl [H20]
  · iexists _; isplitr; swap; iexact H20
    ipureintro
    sl_unfold_run_names
    refine (read_whole _ _ z2 _ _ _).trans ?_
    unfold accFirst
    rw [readAt_whole' arg5 harg5 z2 _ _, readAt_whole' arg6 harg6 z2 _ _]
  isplitl [H21]
  · iexists _; isplitr; swap; iexact H21
    ipureintro
    sl_unfold_run_names
    refine (read_whole _ _ z2 _ _ _).trans ?_
    unfold diagN
    rw [readAt_whole' arg10 harg10 z2 _ _]
  isplitl [H22]
  · iexists _; isplitr; swap; iexact H22
    ipureintro
    sl_unfold_run_names
    refine (read_whole _ _ z2 _ _ _).trans ?_
    unfold diagS
    rw [readAt_whole' arg12 harg12 z2 _ _]
  iexists _; isplitr; swap; iexists _; isplitr; swap; iexact H23
  · ipureintro; rfl
  ipureintro; sl_unfold_run_names; rw [readAt_whole' arg13 harg13 z2 _ _]; exact holds_store _ _ _ _

end Cert.KernelIdeal.Hand

end
-- ==== Proof.RunB.lean ====
/- The kernel's body at a point between: the accumulators are added to. -/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a point between: the accumulators are added to: from the input blocks and the buffers as the point finds them to the buffers as it leaves them. -/
theorem runB (c : Dev nD) (i : grid0.Coords) (arg1 : Memref sig .tc .vmem S16x64x4x128 .f32) (harg1 : arg1.IsWhole) (arg2 : Memref sig .tc .vmem S16x8192 .f32) (harg2 : arg2.IsWhole) (arg3 : Memref sig .tc .vmem S1x8192 .i32) (harg3 : arg3.IsWhole) (arg4 : Memref sig .tc .vmem S16x64x2x128 .f32) (harg4 : arg4.IsWhole) (arg5 : Memref sig .tc .vmem S16x8192 .f32) (harg5 : arg5.IsWhole) (arg6 : Memref sig .tc .vmem S1x8192 .i32) (harg6 : arg6.IsWhole) (arg7 : Memref sig .tc .vmem S32x96 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S4x32 .f32) (harg10 : arg10.IsWhole) (arg11 : Memref sig .tc .vmem S4x32 .f32) (harg11 : arg11.IsWhole) (arg12 : Memref sig .tc .vmem S2x32 .f32) (harg12 : arg12.IsWhole) (arg13 : Memref sig .tc .vmem S6x32 .f32) (harg13 : arg13.IsWhole) (arg14 : Memref sig .tc .vmem S64x16 .f32) (harg14 : arg14.IsWhole) (arg15 : Memref sig .tc .vmem S512x16 .f32) (harg15 : arg15.IsWhole) (arg16 : Memref sig .tc .vmem S512x16 .f32) (harg16 : arg16.IsWhole) (arg17 : Memref sig .tc .vmem S512x16 .f32) (harg17 : arg17.IsWhole) (arg18 : Memref sig .tc .vmem S16x16 .f32) (harg18 : arg18.IsWhole) (arg19 : Memref sig .tc .vmem S16x16 .f32) (harg19 : arg19.IsWhole) (arg20 : Memref sig .tc .vmem S16x16 .f32) (harg20 : arg20.IsWhole) (arg21 : Memref sig .tc .vmem S512x64 .f32) (harg21 : arg21.IsWhole) (arg22 : Memref sig .tc .vmem S512x32 .f32) (harg22 : arg22.IsWhole) (arg23 : Memref sig .tc .vmem S512x8 .f32) (harg23 : arg23.IsWhole)
    (hc0 : ¬isFirst i) (hc1 : ¬isFresh i) (hc2 : isLater i) (hc3 : ¬isLast i) (x : Ins F) (l : Lay F) (a : Acc F) (d : Vec F S512x8 .f32) (hd : Holds l.bc d) (xi16 : Vec F S512x16 .f32) (xi17 : Vec F S16x16 .f32) (E : Set ℕ) (K : PUnit → sProp 𝕄) :
        iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ owns (c : Thread nD τ) arg15 fullShare a.fn ∗ owns (c : Thread nD τ) arg16 fullShare a.fs ∗ owns (c : Thread nD τ) arg17 fullShare xi16 ∗ owns (c : Thread nD τ) arg18 fullShare xi17 ∗ owns (c : Thread nD τ) arg19 fullShare a.cn ∗ owns (c : Thread nD τ) arg20 fullShare a.cs ∗ owns (c : Thread nD τ) arg21 fullShare l.dn ∗ owns (c : Thread nD τ) arg22 fullShare l.ds ∗ owns (c : Thread nD τ) arg23 fullShare d
            ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ owns (c : Thread nD τ) arg15 fullShare (accNext l x a).fn ∗ owns (c : Thread nD τ) arg16 fullShare (accNext l x a).fs ∗ owns (c : Thread nD τ) arg17 fullShare xi16 ∗ owns (c : Thread nD τ) arg18 fullShare xi17 ∗ owns (c : Thread nD τ) arg19 fullShare (accNext l x a).cn ∗ owns (c : Thread nD τ) arg20 fullShare (accNext l x a).cs ∗ owns (c : Thread nD τ) arg21 fullShare l.dn ∗ owns (c : Thread nD τ) arg22 fullShare l.ds ∗ owns (c : Thread nD τ) arg23 fullShare d) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part12_eq_skeleton, k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23
  sl_exec (disch := first | sl_exact hc0 | sl_exact hc1 | sl_exact hc2 | sl_exact hc3)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; exact harg9.read_unread _
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  isplitl [H13]
  · iexists _; isplitr; swap; iexact H13
    ipureintro; exact harg13.read_unread _
  isplitl [H14]
  · iexists _; isplitr; swap; iexact H14
    ipureintro; exact harg14.read_unread _
  isplitl [H15]
  · iexists _; isplitr; swap; iexact H15
    ipureintro
    sl_unfold_run_names
    refine (read_whole _ _ z2 _ _ _).trans ?_
    unfold accNext featN
    rw [readAt_bias arg23 harg23 hd 0 (by decide) _, readAt_whole' arg21 harg21 z2 _ _, readAt_whole' arg2 harg2 z2 _ _, readAt_whole' arg1 harg1 z4 _ _, readAt_whole' arg3 harg3 z2 _ _, readAt_whole' arg15 harg15 z2 _ _]
  isplitl [H16]
  · iexists _; isplitr; swap; iexact H16
    ipureintro
    sl_unfold_run_names
    refine (read_whole _ _ z2 _ _ _).trans ?_
    unfold accNext featS
    rw [readAt_bias arg23 harg23 hd 1 (by decide) _, readAt_whole' arg22 harg22 z2 _ _, readAt_whole' arg5 harg5 z2 _ _, readAt_whole' arg4 harg4 z4 _ _, readAt_whole' arg6 harg6 z2 _ _, readAt_whole' arg16 harg16 z2 _ _]
  isplitl [H17]
  · iexists _; isplitr; swap; iexact H17
    ipureintro; exact harg17.read_unread _
  isplitl [H18]
  · iexists _; isplitr; swap; iexact H18
    ipureintro; exact harg18.read_unread _
  isplitl [H19]
  · iexists _; isplitr; swap; iexact H19
    ipureintro
    sl_unfold_run_names
    refine (read_whole _ _ z2 _ _ _).trans ?_
    unfold accNext cntN
    rw [readAt_whole' arg2 harg2 z2 _ _, readAt_whole' arg3 harg3 z2 _ _, readAt_whole' arg19 harg19 z2 _ _]
  isplitl [H20]
  · iexists _; isplitr; swap; iexact H20
    ipureintro
    sl_unfold_run_names
    refine (read_whole _ _ z2 _ _ _).trans ?_
    unfold accNext
    rw [readAt_whole' arg5 harg5 z2 _ _, readAt_whole' arg6 harg6 z2 _ _, readAt_whole' arg20 harg20 z2 _ _]
  isplitl [H21]
  · iexists _; isplitr; swap; iexact H21
    ipureintro; exact harg21.read_unread _
  isplitl [H22]
  · iexists _; isplitr; swap; iexact H22
    ipureintro; exact harg22.read_unread _
  iexists _; isplitr; swap; iexact H23
  ipureintro; exact harg23.read_unread _

end Cert.KernelIdeal.Hand

end
-- ==== Proof.RunC.lean ====
/- The kernel's body at the last point: the accumulators are added to and the results computed. -/
module

public import proofs.«01_k».proof.Proof.RunB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the last point: the accumulators are added to and the results computed: from the input blocks and the buffers as the point finds them to the buffers as it leaves them. -/
theorem runC (c : Dev nD) (i : grid0.Coords) (arg1 : Memref sig .tc .vmem S16x64x4x128 .f32) (harg1 : arg1.IsWhole) (arg2 : Memref sig .tc .vmem S16x8192 .f32) (harg2 : arg2.IsWhole) (arg3 : Memref sig .tc .vmem S1x8192 .i32) (harg3 : arg3.IsWhole) (arg4 : Memref sig .tc .vmem S16x64x2x128 .f32) (harg4 : arg4.IsWhole) (arg5 : Memref sig .tc .vmem S16x8192 .f32) (harg5 : arg5.IsWhole) (arg6 : Memref sig .tc .vmem S1x8192 .i32) (harg6 : arg6.IsWhole) (arg7 : Memref sig .tc .vmem S32x96 .f32) (harg7 : arg7.IsWhole) (arg8 : Memref sig .tc .vmem S32x32 .f32) (harg8 : arg8.IsWhole) (arg9 : Memref sig .tc .vmem S1x32 .f32) (harg9 : arg9.IsWhole) (arg10 : Memref sig .tc .vmem S4x32 .f32) (harg10 : arg10.IsWhole) (arg11 : Memref sig .tc .vmem S4x32 .f32) (harg11 : arg11.IsWhole) (arg12 : Memref sig .tc .vmem S2x32 .f32) (harg12 : arg12.IsWhole) (arg13 : Memref sig .tc .vmem S6x32 .f32) (harg13 : arg13.IsWhole) (arg14 : Memref sig .tc .vmem S64x16 .f32) (harg14 : arg14.IsWhole) (arg15 : Memref sig .tc .vmem S512x16 .f32) (harg15 : arg15.IsWhole) (arg16 : Memref sig .tc .vmem S512x16 .f32) (harg16 : arg16.IsWhole) (arg17 : Memref sig .tc .vmem S512x16 .f32) (harg17 : arg17.IsWhole) (arg18 : Memref sig .tc .vmem S16x16 .f32) (harg18 : arg18.IsWhole) (arg19 : Memref sig .tc .vmem S16x16 .f32) (harg19 : arg19.IsWhole) (arg20 : Memref sig .tc .vmem S16x16 .f32) (harg20 : arg20.IsWhole) (arg21 : Memref sig .tc .vmem S512x64 .f32) (harg21 : arg21.IsWhole) (arg22 : Memref sig .tc .vmem S512x32 .f32) (harg22 : arg22.IsWhole) (arg23 : Memref sig .tc .vmem S512x8 .f32) (harg23 : arg23.IsWhole)
    (hc0 : ¬isFirst i) (hc1 : ¬isFresh i) (hc2 : isLater i) (hc3 : isLast i) (x : Ins F) (l : Lay F) (a : Acc F) (d : Vec F S512x8 .f32) (hd : Holds l.bc d) (E : Set ℕ) (K : PUnit → sProp 𝕄) :
        iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ owns (c : Thread nD τ) arg15 fullShare a.fn ∗ owns (c : Thread nD τ) arg16 fullShare a.fs ∗ (∃ d, owns (c : Thread nD τ) arg17 fullShare d) ∗ (∃ d, owns (c : Thread nD τ) arg18 fullShare d) ∗ owns (c : Thread nD τ) arg19 fullShare a.cn ∗ owns (c : Thread nD τ) arg20 fullShare a.cs ∗ owns (c : Thread nD τ) arg21 fullShare l.dn ∗ owns (c : Thread nD τ) arg22 fullShare l.ds ∗ owns (c : Thread nD τ) arg23 fullShare d
            ∗ (iprop(owns (c : Thread nD τ) arg1 fullShare x.x0 ∗ owns (c : Thread nD τ) arg2 fullShare x.x1 ∗ owns (c : Thread nD τ) arg3 fullShare x.x2 ∗ owns (c : Thread nD τ) arg4 fullShare x.x3 ∗ owns (c : Thread nD τ) arg5 fullShare x.x4 ∗ owns (c : Thread nD τ) arg6 fullShare x.x5 ∗ owns (c : Thread nD τ) arg7 fullShare x.x6 ∗ owns (c : Thread nD τ) arg8 fullShare x.x7 ∗ owns (c : Thread nD τ) arg9 fullShare x.x8 ∗ owns (c : Thread nD τ) arg10 fullShare x.x9 ∗ owns (c : Thread nD τ) arg11 fullShare x.x10 ∗ owns (c : Thread nD τ) arg12 fullShare x.x11 ∗ owns (c : Thread nD τ) arg13 fullShare x.x12 ∗ owns (c : Thread nD τ) arg14 fullShare x.x13 ∗ owns (c : Thread nD τ) arg15 fullShare (outN l (accNext l x a)) ∗ owns (c : Thread nD τ) arg16 fullShare (outS l (accNext l x a)) ∗ owns (c : Thread nD τ) arg17 fullShare (outP l x) ∗ owns (c : Thread nD τ) arg18 fullShare (outC l x (accNext l x a)) ∗ owns (c : Thread nD τ) arg19 fullShare (accNext l x a).cn ∗ owns (c : Thread nD τ) arg20 fullShare (accNext l x a).cs ∗ owns (c : Thread nD τ) arg21 fullShare l.dn ∗ owns (c : Thread nD τ) arg22 fullShare l.ds ∗ owns (c : Thread nD τ) arg23 fullShare d) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0__body_eq_skeleton]; unfold cc0__body_skel
  simp only [k0_part12_eq_skeleton, k0_part13_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%f20, %hf20, H20⟩, ⟨%f21, %hf21, H21⟩, ⟨%f22, %hf22, H22⟩, ⟨%f23, %hf23, H23⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg19.eq_unread hf19; obtain rfl := harg20.eq_unread hf20; obtain rfl := harg21.eq_unread hf21; obtain rfl := harg22.eq_unread hf22; obtain rfl := harg23.eq_unread hf23
  sl_exec (disch := first | sl_exact hc0 | sl_exact hc1 | sl_exact hc2 | sl_exact hc3)
  sl_step
  iapply Hk
  isplitl [H1]
  · iexists _; isplitr; swap; iexact H1
    ipureintro; exact harg1.read_unread _
  isplitl [H2]
  · iexists _; isplitr; swap; iexact H2
    ipureintro; exact harg2.read_unread _
  isplitl [H3]
  · iexists _; isplitr; swap; iexact H3
    ipureintro; exact harg3.read_unread _
  isplitl [H4]
  · iexists _; isplitr; swap; iexact H4
    ipureintro; exact harg4.read_unread _
  isplitl [H5]
  · iexists _; isplitr; swap; iexact H5
    ipureintro; exact harg5.read_unread _
  isplitl [H6]
  · iexists _; isplitr; swap; iexact H6
    ipureintro; exact harg6.read_unread _
  isplitl [H7]
  · iexists _; isplitr; swap; iexact H7
    ipureintro; exact harg7.read_unread _
  isplitl [H8]
  · iexists _; isplitr; swap; iexact H8
    ipureintro; exact harg8.read_unread _
  isplitl [H9]
  · iexists _; isplitr; swap; iexact H9
    ipureintro; exact harg9.read_unread _
  isplitl [H10]
  · iexists _; isplitr; swap; iexact H10
    ipureintro; exact harg10.read_unread _
  isplitl [H11]
  · iexists _; isplitr; swap; iexact H11
    ipureintro; exact harg11.read_unread _
  isplitl [H12]
  · iexists _; isplitr; swap; iexact H12
    ipureintro; exact harg12.read_unread _
  isplitl [H13]
  · iexists _; isplitr; swap; iexact H13
    ipureintro; exact harg13.read_unread _
  isplitl [H14]
  · iexists _; isplitr; swap; iexact H14
    ipureintro; exact harg14.read_unread _
  isplitl [H15]
  · iexists _; isplitr; swap; iexact H15
    ipureintro
    sl_unfold_run_names
    refine (read_whole _ _ z2 _ _ _).trans ?_
    unfold outN accNext featN cntN
    rw [readCov_whole arg15.view z2, readCov_whole arg19.view z2, readAt_bias arg23 harg23 hd 0 (by decide) _, readAt_whole' arg21 harg21 z2 _ _, readAt_whole' arg2 harg2 z2 _ _, readAt_whole' arg1 harg1 z4 _ _, readAt_whole' arg3 harg3 z2 _ _, readAt_whole' arg15 harg15 z2 _ _, readAt_whole' arg19 harg19 z2 _ _]
  isplitl [H16]
  · iexists _; isplitr; swap; iexact H16
    ipureintro
    sl_unfold_run_names
    refine (read_whole _ _ z2 _ _ _).trans ?_
    unfold outS accNext featS
    rw [readCov_whole arg16.view z2, readCov_whole arg20.view z2, readAt_bias arg23 harg23 hd 1 (by decide) _, readAt_whole' arg22 harg22 z2 _ _, readAt_whole' arg5 harg5 z2 _ _, readAt_whole' arg4 harg4 z4 _ _, readAt_whole' arg6 harg6 z2 _ _, readAt_whole' arg16 harg16 z2 _ _, readAt_whole' arg20 harg20 z2 _ _]
  isplitl [H17]
  · iexists _; isplitr; swap; iexact H17
    ipureintro
    sl_unfold_run_names
    refine (read_whole _ _ z2 _ _ _).trans ?_
    unfold outP
    rw [readAt_bias arg23 harg23 hd 2 (by decide) _, readAt_whole' arg11 harg11 z2 _ _, readAt_whole' arg14 harg14 z2 _ _]
  isplitl [H18]
  · iexists _; isplitr; swap; iexact H18
    ipureintro
    sl_unfold_run_names
    refine (read_whole _ _ z2 _ _ _).trans ?_
    unfold outC hid2 hid1 outN outS accNext featN featS cntN
    rw [readCov_whole arg15.view z2, readCov_whole arg19.view z2, readCov_whole arg16.view z2, readCov_whole arg20.view z2, readAt_bias arg23 harg23 hd 0 (by decide) _, readAt_bias arg23 harg23 hd 1 (by decide) _, readAt_bias arg23 harg23 hd 2 (by decide) _, readAt_bias arg23 harg23 hd 3 (by decide) _, readAt_bias arg23 harg23 hd 4 (by decide) _, readAt_whole' arg21 harg21 z2 _ _, readAt_whole' arg2 harg2 z2 _ _, readAt_whole' arg1 harg1 z4 _ _, readAt_whole' arg3 harg3 z2 _ _, readAt_whole' arg15 harg15 z2 _ _, readAt_whole' arg19 harg19 z2 _ _, readAt_whole' arg22 harg22 z2 _ _, readAt_whole' arg5 harg5 z2 _ _, readAt_whole' arg4 harg4 z4 _ _, readAt_whole' arg6 harg6 z2 _ _, readAt_whole' arg16 harg16 z2 _ _, readAt_whole' arg20 harg20 z2 _ _, readAt_whole' arg11 harg11 z2 _ _, readAt_whole' arg14 harg14 z2 _ _, readAt_whole' arg7 harg7 z2 _ _, readAt_whole' arg8 harg8 z2 _ _, readAt_whole' arg9 harg9 z2 _ _, View.readAt_eq_ld arg13.view, harg13.read_unread]
  isplitl [H19]
  · iexists _; isplitr; swap; iexact H19
    ipureintro
    sl_unfold_run_names
    refine (read_whole _ _ z2 _ _ _).trans ?_
    unfold accNext cntN
    rw [readAt_whole' arg2 harg2 z2 _ _, readAt_whole' arg3 harg3 z2 _ _, readAt_whole' arg19 harg19 z2 _ _]
  isplitl [H20]
  · iexists _; isplitr; swap; iexact H20
    ipureintro
    sl_unfold_run_names
    refine (read_whole _ _ z2 _ _ _).trans ?_
    unfold accNext
    rw [readAt_whole' arg5 harg5 z2 _ _, readAt_whole' arg6 harg6 z2 _ _, readAt_whole' arg20 harg20 z2 _ _]
  isplitl [H21]
  · iexists _; isplitr; swap; iexact H21
    ipureintro; exact harg21.read_unread _
  isplitl [H22]
  · iexists _; isplitr; swap; iexact H22
    ipureintro; exact harg22.read_unread _
  iexists _; isplitr; swap; iexact H23
  ipureintro; exact harg23.read_unread _

end Cert.KernelIdeal.Hand

end
-- ==== Proof.Body.lean ====
/- The frame of the kernel: what each point leaves, the body's triple at every point, and the run of the whole program. -/
module

public import proofs.«01_k».proof.Proof.RunC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- The input blocks of point `t`. -/
abbrev insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The layout the first point stores. -/
def lay (c : Dev nD) : Lay F := layOf (insAt m c t0_0)

/-- The accumulators after point `n`. -/
def accAt (c : Dev nD) : (n : ℕ) → n < cfg0.N → Acc F
  | 0, h => accFirst (lay m c) (insAt m c ⟨0, h⟩)
  | n + 1, h => accNext (lay m c) (insAt m c ⟨n + 1, h⟩) (accAt c n (Nat.lt_of_succ_lt h))

/-- The layouts are those made at the first point. -/
theorem lay_first (c : Dev nD) (t : Fin cfg0.N) (h : t.val = 0) : lay m c = layOf (insAt m c t) := by
  obtain ⟨n, hn⟩ := t
  subst h
  rfl

/-- At the first point the sums are the block's own. -/
theorem accAt_first (c : Dev nD) (t : Fin cfg0.N) (h : t.val = 0) :
    accAt m c t.val t.isLt = accFirst (lay m c) (insAt m c t) := by
  obtain ⟨n, hn⟩ := t
  subst h
  rfl

/-- At a later point the block's sums are added to those so far. -/
theorem accAt_next (c : Dev nD) (t : Fin cfg0.N) (h : t.val ≠ 0) :
    accAt m c t.val t.isLt = accNext (lay m c) (insAt m c t) (accAt m c (t.val - 1) (Nat.lt_of_le_of_lt (Nat.sub_le _ _) t.isLt)) := by
  obtain ⟨n, hn⟩ := t
  cases n with
  | zero => exact absurd rfl h
  | succ n => rfl

/-- The two accumulated outputs after point `t`: the running sums, and at the last point the results. -/
def left14 (c : Dev nD) (t : Fin cfg0.N) : Vec F S512x16 .f32 :=
  if t.val = 3 then outN (lay m c) (accAt m c t.val t.isLt) else (accAt m c t.val t.isLt).fn
/-- What a point leaves in the signs' sums. -/
def left15 (c : Dev nD) (t : Fin cfg0.N) : Vec F S512x16 .f32 :=
  if t.val = 3 then outS (lay m c) (accAt m c t.val t.isLt) else (accAt m c t.val t.isLt).fs
/-- The other two outputs, as the last point stores them. -/
def left16 (c : Dev nD) (t : Fin cfg0.N) : Vec F S512x16 .f32 := outP (lay m c) (insAt m c t)
/-- The scores, as the last point stores them. -/
def left17 (c : Dev nD) (t : Fin cfg0.N) : Vec F S16x16 .f32 := outC (lay m c) (insAt m c t) (accAt m c t.val t.isLt)

/-- The scratch after point `n`: the counts and the layout; the bias scratch holds the six bias columns. -/
def kept (c : Dev nD) (n : ℕ) (hn : n < cfg0.N) : sProp 𝕄 :=
  iprop(owns (c : Thread nD τ) sc0 fullShare (accAt m c n hn).cn ∗ owns (c : Thread nD τ) sc1 fullShare (accAt m c n hn).cs ∗ owns (c : Thread nD τ) sc2 fullShare (lay m c).dn ∗ owns (c : Thread nD τ) sc3 fullShare (lay m c).ds ∗ (∃ d, ⌜Holds (lay m c).bc d⌝ ∗ owns (c : Thread nD τ) sc4 fullShare d))

/-- The region's invariant before position `n`. -/
def PhiS (c : Dev nD) : (n : ℕ) → n ≤ cfg0.N → sProp 𝕄
  | 0, _ => Pipeline.ΦA spec0 c
  | n + 1, hn => iprop(kept m c n hn ∗ (∃ r, prngReg c r))

/-- Before the first point the carried buffers hold anything. -/
theorem PhiS_zero (c : Dev nD) (n : ℕ) (h : n ≤ cfg0.N) (hz : n = 0) : PhiS m c n h = Pipeline.ΦA spec0 c := by
  subst hz; rfl

/-- After a point they hold the layouts and the counts so far. -/
theorem PhiS_pos (c : Dev nD) (n : ℕ) (h : n ≤ cfg0.N) (hz : n ≠ 0) :
    PhiS m c n h = iprop(kept m c (n - 1) (by omega) ∗ (∃ r, prngReg c r)) := by
  cases n with
  | zero => exact absurd rfl hz
  | succ n => rfl

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => left14 m c t
    | ⟨15, _⟩ => left15 m c t
    | ⟨16, _⟩ => left16 m c t
    | ⟨17, _⟩ => left17 m c t
    | ⟨_ + 18, h⟩ => absurd h (Nat.not_lt.2 (Nat.le_add_left _ _))
  Φ t := PhiS m c t.val (Nat.le_of_lt_succ t.isLt)
  q _ := fullShare
  owed _ := 0

/-- The arrays start at what the opening host operations leave. -/
theorem A_eq (c : Dev nD) (w : Fin cfg0.W) : (dats m 0 c).A w = V m c (Pipeline.arrRef spec0 w) := by
  dsimp only [dats]

/-- The carried state before a point. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What a point leaves in the buffer of the neighbour boxes. -/
theorem after0 (c : Dev nD) (t : Fin cfg0.N) : (dats m 0 c).after 0 t = iblk m c 0 t := by dsimp only [dats]
/-- What a point leaves in the buffer of the neighbour classes. -/
theorem after1 (c : Dev nD) (t : Fin cfg0.N) : (dats m 0 c).after 1 t = iblk m c 1 t := by dsimp only [dats]
/-- What a point leaves in the buffer of the neighbour slots. -/
theorem after2 (c : Dev nD) (t : Fin cfg0.N) : (dats m 0 c).after 2 t = iblk m c 2 t := by dsimp only [dats]
/-- What a point leaves in the buffer of the sign boxes. -/
theorem after3 (c : Dev nD) (t : Fin cfg0.N) : (dats m 0 c).after 3 t = iblk m c 3 t := by dsimp only [dats]
/-- What a point leaves in the buffer of the sign classes. -/
theorem after4 (c : Dev nD) (t : Fin cfg0.N) : (dats m 0 c).after 4 t = iblk m c 4 t := by dsimp only [dats]
/-- What a point leaves in the buffer of the sign slots. -/
theorem after5 (c : Dev nD) (t : Fin cfg0.N) : (dats m 0 c).after 5 t = iblk m c 5 t := by dsimp only [dats]
/-- What a point leaves in the buffer of the first weights, transposed. -/
theorem after6 (c : Dev nD) (t : Fin cfg0.N) : (dats m 0 c).after 6 t = iblk m c 6 t := by dsimp only [dats]
/-- What a point leaves in the buffer of the second weights. -/
theorem after7 (c : Dev nD) (t : Fin cfg0.N) : (dats m 0 c).after 7 t = iblk m c 7 t := by dsimp only [dats]
/-- What a point leaves in the buffer of the third weights, transposed. -/
theorem after8 (c : Dev nD) (t : Fin cfg0.N) : (dats m 0 c).after 8 t = iblk m c 8 t := by dsimp only [dats]
/-- What a point leaves in the buffer of the neighbour weights. -/
theorem after9 (c : Dev nD) (t : Fin cfg0.N) : (dats m 0 c).after 9 t = iblk m c 9 t := by dsimp only [dats]
/-- What a point leaves in the buffer of the pedestrian weights. -/
theorem after10 (c : Dev nD) (t : Fin cfg0.N) : (dats m 0 c).after 10 t = iblk m c 10 t := by dsimp only [dats]
/-- What a point leaves in the buffer of the sign weights. -/
theorem after11 (c : Dev nD) (t : Fin cfg0.N) : (dats m 0 c).after 11 t = iblk m c 11 t := by dsimp only [dats]
/-- What a point leaves in the buffer of the stacked biases. -/
theorem after12 (c : Dev nD) (t : Fin cfg0.N) : (dats m 0 c).after 12 t = iblk m c 12 t := by dsimp only [dats]
/-- What a point leaves in the buffer of the pedestrian boxes, transposed. -/
theorem after13 (c : Dev nD) (t : Fin cfg0.N) : (dats m 0 c).after 13 t = iblk m c 13 t := by dsimp only [dats]
/-- What a point leaves in the buffer of the neighbours' sums. -/
theorem after14 (c : Dev nD) (t : Fin cfg0.N) : (dats m 0 c).after 14 t = left14 m c t := by dsimp only [dats]
/-- What a point leaves in the buffer of the signs' sums. -/
theorem after15 (c : Dev nD) (t : Fin cfg0.N) : (dats m 0 c).after 15 t = left15 m c t := by dsimp only [dats]
/-- What a point leaves in the buffer of the pedestrian embedding. -/
theorem after16 (c : Dev nD) (t : Fin cfg0.N) : (dats m 0 c).after 16 t = left16 m c t := by dsimp only [dats]
/-- What a point leaves in the buffer of the scores. -/
theorem after17 (c : Dev nD) (t : Fin cfg0.N) : (dats m 0 c).after 17 t = left17 m c t := by dsimp only [dats]
/-- The buffer of the neighbour boxes holds the point's block before the body. -/
theorem before0 (c : Dev nD) (t : Fin cfg0.N) (d) : (dats m 0 c).before 0 t d = iblk m c 0 t :=
  before0_0_of m (dats m 0 c) (A_eq m c 0) (after0 m c) t d
/-- The buffer of the neighbour classes holds the point's block before the body. -/
theorem before1 (c : Dev nD) (t : Fin cfg0.N) (d) : (dats m 0 c).before 1 t d = iblk m c 1 t :=
  before0_1_of m (dats m 0 c) (A_eq m c 1) (after1 m c) t d
/-- The buffer of the neighbour slots holds the point's block before the body. -/
theorem before2 (c : Dev nD) (t : Fin cfg0.N) (d) : (dats m 0 c).before 2 t d = iblk m c 2 t :=
  before0_2_of m (dats m 0 c) (A_eq m c 2) (after2 m c) t d
/-- The buffer of the sign boxes holds the point's block before the body. -/
theorem before3 (c : Dev nD) (t : Fin cfg0.N) (d) : (dats m 0 c).before 3 t d = iblk m c 3 t :=
  before0_3_of m (dats m 0 c) (A_eq m c 3) (after3 m c) t d
/-- The buffer of the sign classes holds the point's block before the body. -/
theorem before4 (c : Dev nD) (t : Fin cfg0.N) (d) : (dats m 0 c).before 4 t d = iblk m c 4 t :=
  before0_4_of m (dats m 0 c) (A_eq m c 4) (after4 m c) t d
/-- The buffer of the sign slots holds the point's block before the body. -/
theorem before5 (c : Dev nD) (t : Fin cfg0.N) (d) : (dats m 0 c).before 5 t d = iblk m c 5 t :=
  before0_5_of m (dats m 0 c) (A_eq m c 5) (after5 m c) t d
/-- The buffer of the first weights, transposed holds the point's block before the body. -/
theorem before6 (c : Dev nD) (t : Fin cfg0.N) (d) : (dats m 0 c).before 6 t d = iblk m c 6 t :=
  before0_6_of m (dats m 0 c) (A_eq m c 6) (after6 m c) t d
/-- The buffer of the second weights holds the point's block before the body. -/
theorem before7 (c : Dev nD) (t : Fin cfg0.N) (d) : (dats m 0 c).before 7 t d = iblk m c 7 t :=
  before0_7_of m (dats m 0 c) (A_eq m c 7) (after7 m c) t d
/-- The buffer of the third weights, transposed holds the point's block before the body. -/
theorem before8 (c : Dev nD) (t : Fin cfg0.N) (d) : (dats m 0 c).before 8 t d = iblk m c 8 t :=
  before0_8_of m (dats m 0 c) (A_eq m c 8) (after8 m c) t d
/-- The buffer of the neighbour weights holds the point's block before the body. -/
theorem before9 (c : Dev nD) (t : Fin cfg0.N) (d) : (dats m 0 c).before 9 t d = iblk m c 9 t :=
  before0_9_of m (dats m 0 c) (A_eq m c 9) (after9 m c) t d
/-- The buffer of the pedestrian weights holds the point's block before the body. -/
theorem before10 (c : Dev nD) (t : Fin cfg0.N) (d) : (dats m 0 c).before 10 t d = iblk m c 10 t :=
  before0_10_of m (dats m 0 c) (A_eq m c 10) (after10 m c) t d
/-- The buffer of the sign weights holds the point's block before the body. -/
theorem before11 (c : Dev nD) (t : Fin cfg0.N) (d) : (dats m 0 c).before 11 t d = iblk m c 11 t :=
  before0_11_of m (dats m 0 c) (A_eq m c 11) (after11 m c) t d
/-- The buffer of the stacked biases holds the point's block before the body. -/
theorem before12 (c : Dev nD) (t : Fin cfg0.N) (d) : (dats m 0 c).before 12 t d = iblk m c 12 t :=
  before0_12_of m (dats m 0 c) (A_eq m c 12) (after12 m c) t d
/-- The buffer of the pedestrian boxes, transposed holds the point's block before the body. -/
theorem before13 (c : Dev nD) (t : Fin cfg0.N) (d) : (dats m 0 c).before 13 t d = iblk m c 13 t :=
  before0_13_of m (dats m 0 c) (A_eq m c 13) (after13 m c) t d

/-- At every point but the first this accumulator's buffer holds what the point before left. -/
theorem before14 (c : Dev nD) (t : Fin cfg0.N) (h : t.val ≠ 0) (d) :
    (dats m 0 c).before 14 t d = (accAt m c (t.val - 1) (Nat.lt_of_le_of_lt (Nat.sub_le _ _) t.isLt)).fn := by
  have hN : t.val < 4 := lt_of_lt_of_eq t.isLt (show cfg0.N = 4 from N_0)
  rw [Dat.before_out_traj _ 14 rfl (fun _ _ => rfl) (fun t _ hi _ => absurd (hi.symm.trans (live14 t)) (by decide)) t.val t rfl d,
    if_neg (by rw [kept14 t h]; exact Bool.false_ne_true), after14]
  exact if_neg (show t.val - 1 ≠ 3 by omega)

/-- At every point but the first this accumulator's buffer holds what the point before left. -/
theorem before15 (c : Dev nD) (t : Fin cfg0.N) (h : t.val ≠ 0) (d) :
    (dats m 0 c).before 15 t d = (accAt m c (t.val - 1) (Nat.lt_of_le_of_lt (Nat.sub_le _ _) t.isLt)).fs := by
  have hN : t.val < 4 := lt_of_lt_of_eq t.isLt (show cfg0.N = 4 from N_0)
  rw [Dat.before_out_traj _ 15 rfl (fun _ _ => rfl) (fun t _ hi _ => absurd (hi.symm.trans (live15 t)) (by decide)) t.val t rfl d,
    if_neg (by rw [kept15 t h]; exact Bool.false_ne_true), after15]
  exact if_neg (show t.val - 1 ≠ 3 by omega)

/-! ## The body at every point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-- What the body must leave of the neighbour boxes. -/
theorem leaves0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by unfold Dat.leavesExact; rw [show cfg0.idle 0 (grid0.coords t) = false from rfl], after0]
/-- What the body must leave of the neighbour classes. -/
theorem leaves1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by unfold Dat.leavesExact; rw [show cfg0.idle 1 (grid0.coords t) = false from rfl], after1]
/-- What the body must leave of the neighbour slots. -/
theorem leaves2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by unfold Dat.leavesExact; rw [show cfg0.idle 2 (grid0.coords t) = false from rfl], after2]
/-- What the body must leave of the sign boxes. -/
theorem leaves3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by unfold Dat.leavesExact; rw [show cfg0.idle 3 (grid0.coords t) = false from rfl], after3]
/-- What the body must leave of the sign classes. -/
theorem leaves4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by unfold Dat.leavesExact; rw [show cfg0.idle 4 (grid0.coords t) = false from rfl], after4]
/-- What the body must leave of the sign slots. -/
theorem leaves5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by unfold Dat.leavesExact; rw [show cfg0.idle 5 (grid0.coords t) = false from rfl], after5]
/-- What the body must leave of the first weights, transposed. -/
theorem leaves6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by unfold Dat.leavesExact; rw [show cfg0.idle 6 (grid0.coords t) = false from rfl], after6]
/-- What the body must leave of the second weights. -/
theorem leaves7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by unfold Dat.leavesExact; rw [show cfg0.idle 7 (grid0.coords t) = false from rfl], after7]
/-- What the body must leave of the third weights, transposed. -/
theorem leaves8 (c : Dev nD) (t : Fin cfg0.N) : (dats m 0 c).leavesExact 8 t = owns (c : Thread nD τ) (ms0_8 t) fullShare (iblk m c 8 t) := by
  rw [show (dats m 0 c).leavesExact 8 t = owns (c : Thread nD τ) (ms0_8 t) fullShare ((dats m 0 c).after 8 t) from by unfold Dat.leavesExact; rw [show cfg0.idle 8 (grid0.coords t) = false from rfl], after8]
/-- What the body must leave of the neighbour weights. -/
theorem leaves9 (c : Dev nD) (t : Fin cfg0.N) : (dats m 0 c).leavesExact 9 t = owns (c : Thread nD τ) (ms0_9 t) fullShare (iblk m c 9 t) := by
  rw [show (dats m 0 c).leavesExact 9 t = owns (c : Thread nD τ) (ms0_9 t) fullShare ((dats m 0 c).after 9 t) from by unfold Dat.leavesExact; rw [show cfg0.idle 9 (grid0.coords t) = false from rfl], after9]
/-- What the body must leave of the pedestrian weights. -/
theorem leaves10 (c : Dev nD) (t : Fin cfg0.N) : (dats m 0 c).leavesExact 10 t = owns (c : Thread nD τ) (ms0_10 t) fullShare (iblk m c 10 t) := by
  rw [show (dats m 0 c).leavesExact 10 t = owns (c : Thread nD τ) (ms0_10 t) fullShare ((dats m 0 c).after 10 t) from by unfold Dat.leavesExact; rw [show cfg0.idle 10 (grid0.coords t) = false from rfl], after10]
/-- What the body must leave of the sign weights. -/
theorem leaves11 (c : Dev nD) (t : Fin cfg0.N) : (dats m 0 c).leavesExact 11 t = owns (c : Thread nD τ) (ms0_11 t) fullShare (iblk m c 11 t) := by
  rw [show (dats m 0 c).leavesExact 11 t = owns (c : Thread nD τ) (ms0_11 t) fullShare ((dats m 0 c).after 11 t) from by unfold Dat.leavesExact; rw [show cfg0.idle 11 (grid0.coords t) = false from rfl], after11]
/-- What the body must leave of the stacked biases. -/
theorem leaves12 (c : Dev nD) (t : Fin cfg0.N) : (dats m 0 c).leavesExact 12 t = owns (c : Thread nD τ) (ms0_12 t) fullShare (iblk m c 12 t) := by
  rw [show (dats m 0 c).leavesExact 12 t = owns (c : Thread nD τ) (ms0_12 t) fullShare ((dats m 0 c).after 12 t) from by unfold Dat.leavesExact; rw [show cfg0.idle 12 (grid0.coords t) = false from rfl], after12]
/-- What the body must leave of the pedestrian boxes, transposed. -/
theorem leaves13 (c : Dev nD) (t : Fin cfg0.N) : (dats m 0 c).leavesExact 13 t = owns (c : Thread nD τ) (ms0_13 t) fullShare (iblk m c 13 t) := by
  rw [show (dats m 0 c).leavesExact 13 t = owns (c : Thread nD τ) (ms0_13 t) fullShare ((dats m 0 c).after 13 t) from by unfold Dat.leavesExact; rw [show cfg0.idle 13 (grid0.coords t) = false from rfl], after13]
/-- What the body must leave of the neighbours' sums. -/
theorem leaves14 (c : Dev nD) (t : Fin cfg0.N) : (dats m 0 c).leavesExact 14 t = owns (c : Thread nD τ) (ms0_14 t) fullShare (left14 m c t) := by
  rw [show (dats m 0 c).leavesExact 14 t = owns (c : Thread nD τ) (ms0_14 t) fullShare ((dats m 0 c).after 14 t) from by unfold Dat.leavesExact; rw [live14 t], after14]
/-- What the body must leave of the signs' sums. -/
theorem leaves15 (c : Dev nD) (t : Fin cfg0.N) : (dats m 0 c).leavesExact 15 t = owns (c : Thread nD τ) (ms0_15 t) fullShare (left15 m c t) := by
  rw [show (dats m 0 c).leavesExact 15 t = owns (c : Thread nD τ) (ms0_15 t) fullShare ((dats m 0 c).after 15 t) from by unfold Dat.leavesExact; rw [live15 t], after15]
/-- What the body must leave of the pedestrian embedding. -/
theorem leaves16 (c : Dev nD) (t : Fin cfg0.N) (h : t.val = 3) : (dats m 0 c).leavesExact 16 t = owns (c : Thread nD τ) (ms0_16 t) fullShare (left16 m c t) := by
  rw [show (dats m 0 c).leavesExact 16 t = owns (c : Thread nD τ) (ms0_16 t) fullShare ((dats m 0 c).after 16 t) from by unfold Dat.leavesExact; rw [live16 t h], after16]
/-- What the body must leave of the scores. -/
theorem leaves17 (c : Dev nD) (t : Fin cfg0.N) (h : t.val = 3) : (dats m 0 c).leavesExact 17 t = owns (c : Thread nD τ) (ms0_17 t) fullShare (left17 m c t) := by
  rw [show (dats m 0 c).leavesExact 17 t = owns (c : Thread nD τ) (ms0_17 t) fullShare ((dats m 0 c).after 17 t) from by unfold Dat.leavesExact; rw [live17 t h], after17]

set_option maxHeartbeats 8000000 in
/-- The body's triple, at the first point. -/
theorem sound_first (c : Dev nD) (t : Fin cfg0.N) (h0 : t.val = 0) (h3 : t.val ≠ 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = iprop(kept m c t.val t.isLt ∗ (∃ r, prngReg c r)) from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t]
  rw [Dat.leavesExact_idle (dats m 0 c) 16 t (idle16 t h3) (still16 t h3), Dat.leavesExact_idle (dats m 0 c) 17 t (idle17 t h3) (still17 t h3)]
  rw [PhiS_castSucc m c t, PhiS_zero m c _ _ h0, PhiA_eq]
  unfold kept left14 left15
  rw [if_neg h3, if_neg h3, accAt_first m c t h0, lay_first m c t h0]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (runA c (grid0.coords t) _ _ _ _ _ _ _ _ _ _ _ _ _ _ _ _ _ _ _ _ _ _ _ _ _ _ _ _ _ _ _ _ _ _ _ _ _ _ _ _ _ _ _ _ _ _ ((isFirst_iff t).mpr h0) ((isFresh_iff t).mpr h0) (fun h => (isLater_iff t).mp h h0) (fun h => h3 ((isLast_iff t).mp h)) (insAt m c t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iexists _; iexact H17

set_option maxHeartbeats 8000000 in
/-- The body's triple, at the between points. -/
theorem sound_between (c : Dev nD) (t : Fin cfg0.N) (h0 : t.val ≠ 0) (h3 : t.val ≠ 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = iprop(kept m c t.val t.isLt ∗ (∃ r, prngReg c r)) from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t]
  rw [Dat.leavesExact_idle (dats m 0 c) 16 t (idle16 t h3) (still16 t h3), Dat.leavesExact_idle (dats m 0 c) 17 t (idle17 t h3) (still17 t h3)]
  simp only [before14 m c t h0, before15 m c t h0]
  rw [PhiS_castSucc m c t, PhiS_pos m c _ _ h0]
  unfold kept left14 left15
  rw [if_neg h3, if_neg h3, accAt_next m c t h0]
  iintro ⟨⟨⟨HS0, HS1, HS2, HS3, ⟨%d, %hd, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (runB c (grid0.coords t) _ _ _ _ _ _ _ _ _ _ _ _ _ _ _ _ _ _ _ _ _ _ _ _ _ _ _ _ _ _ _ _ _ _ _ _ _ _ _ _ _ _ _ _ _ _ (fun h => h0 ((isFirst_iff t).mp h)) (fun h => h0 ((isFresh_iff t).mp h)) ((isLater_iff t).mpr h0) (fun h => h3 ((isLast_iff t).mp h)) (insAt m c t) (lay m c) (accAt m c (t.val - 1) (Nat.lt_of_le_of_lt (Nat.sub_le _ _) t.isLt)) d hd _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexists d; isplitr; · ipureintro; exact hd
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iexists _; iexact H17

set_option maxHeartbeats 8000000 in
/-- The body's triple, at the last point. -/
theorem sound_last (c : Dev nD) (t : Fin cfg0.N) (h0 : t.val ≠ 0) (h3 : t.val = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = iprop(kept m c t.val t.isLt ∗ (∃ r, prngReg c r)) from rfl]
  rw [leaves0 m c t, leaves1 m c t, leaves2 m c t, leaves3 m c t, leaves4 m c t, leaves5 m c t, leaves6 m c t, leaves7 m c t, leaves8 m c t, leaves9 m c t, leaves10 m c t, leaves11 m c t, leaves12 m c t, leaves13 m c t, leaves14 m c t, leaves15 m c t]
  rw [leaves16 m c t h3, leaves17 m c t h3]
  simp only [before14 m c t h0, before15 m c t h0]
  rw [PhiS_castSucc m c t, PhiS_pos m c _ _ h0]
  unfold kept left14 left15 left16 left17
  rw [if_pos h3, if_pos h3, accAt_next m c t h0]
  iintro ⟨⟨⟨HS0, HS1, HS2, HS3, ⟨%d, %hd, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (runC c (grid0.coords t) _ _ _ _ _ _ _ _ _ _ _ _ _ _ _ _ _ _ _ _ _ _ _ _ _ _ _ _ _ _ _ _ _ _ _ _ _ _ _ _ _ _ _ _ _ _ (fun h => h0 ((isFirst_iff t).mp h)) (fun h => h0 ((isFresh_iff t).mp h)) ((isLater_iff t).mpr h0) ((isLast_iff t).mpr h3) (insAt m c t) (lay m c) (accAt m c (t.val - 1) (Nat.lt_of_le_of_lt (Nat.sub_le _ _) t.isLt)) d hd Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexists d; isplitr; · ipureintro; exact hd
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body's triple, at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0 (by omega)
  · by_cases h3 : t.val = 3
    · exact sound_last m c t h0 h3
    · exact sound_between m c t h0 h3

/-- The body that a point runs. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch's carried buffers are the state before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents of the scratch are forgotten. -/
theorem hout (c : Dev nD) : (dats m 0 c).Φ (Fin.last cfg0.N) ⊢ Pipeline.ΦA spec0 c := by
  have hz : (Fin.last cfg0.N).val ≠ 0 := by rw [Fin.val_last]; have : cfg0.N = 4 := N_0; omega
  rw [show (dats m 0 c).Φ (Fin.last cfg0.N) = PhiS m c (Fin.last cfg0.N).val (Nat.le_of_lt_succ (Fin.last cfg0.N).isLt) from rfl, PhiS_pos m c _ _ hz, PhiA_eq]
  unfold kept
  iintro ⟨⟨HS0, HS1, HS2, HS3, ⟨%d, %hd, HS4⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
set_option maxHeartbeats 800000 in
/-- The launch, with every semaphore counter at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The launch: every run ends with the pipeline's arrays and the other buffers at what the proof data say. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Blocks.lean ====
/- What the kernel's blocks hold: each entry of an input block is an entry of an argument. -/
module

public import proofs.«01_k».proof.Proof.Gen.KernelIdeal.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe
open Idealize.SL.Sem
variable {F : FTy → Type} [FloatOps F] (m : (ℓ : Loc nD τ sig) → Buf (Elt F) ℓ)

/-- The laid-out neighbour boxes are the argument's. -/
theorem V_v2 (c : Dev nD) (t : Fin 16) (cb : Fin 256) (d : Fin 4) (l : Fin 128) :
    (V m c main_call0_v2 : Vec F S16x256x4x128 .f32) (ix4 t cb d l) = (m ((c : Thread nD τ).loc main_arg1) : Vec F S32768x16x4 .f32) (ix3 ⟨cb.val * 128 + l.val, by omega⟩ t d) := by
  unfold V
  after_reads_at

/-- The laid-out sign boxes are the argument's. -/
theorem V_v5 (c : Dev nD) (t : Fin 16) (cb : Fin 256) (d : Fin 2) (l : Fin 128) :
    (V m c main_call0_v5 : Vec F S16x256x2x128 .f32) (ix4 t cb d l) = (m ((c : Thread nD τ).loc main_arg2) : Vec F S32768x16x2 .f32) (ix3 ⟨cb.val * 128 + l.val, by omega⟩ t d) := by
  unfold V
  after_reads_at

/-- The transposed neighbour classes are the argument's. -/
theorem V_v6 (c : Dev nD) (t : Fin 16) (n : Fin 32768) :
    (V m c main_call0_v6 : Vec F S16x32768 .f32) (ix2 t n) = (m ((c : Thread nD τ).loc main_arg3) : Vec F S32768x16 .f32) (ix2 n t) := by
  unfold V
  after_reads_at

/-- The transposed sign classes are the argument's. -/
theorem V_v7 (c : Dev nD) (t : Fin 16) (n : Fin 32768) :
    (V m c main_call0_v7 : Vec F S16x32768 .f32) (ix2 t n) = (m ((c : Thread nD τ).loc main_arg4) : Vec F S32768x16 .f32) (ix2 n t) := by
  unfold V
  after_reads_at

/-- The neighbour slots, as one row, are the argument's. -/
theorem V_v8 (c : Dev nD) (n : Fin 32768) :
    (V m c main_call0_v8 : Vec F S1x32768 .i32) (ix2 0 n) = (m ((c : Thread nD τ).loc main_arg5) : Vec F S32768 .i32) (ix1 n) := by
  unfold V
  after_reads_at

/-- The sign slots, as one row, are the argument's. -/
theorem V_v9 (c : Dev nD) (n : Fin 32768) :
    (V m c main_call0_v9 : Vec F S1x32768 .i32) (ix2 0 n) = (m ((c : Thread nD τ).loc main_arg6) : Vec F S32768 .i32) (ix1 n) := by
  unfold V
  after_reads_at

/-- The transposed pedestrian boxes are the argument's. -/
theorem V_v11 (c : Dev nD) (k : Fin 64) (b : Fin 16) :
    (V m c main_call0_v11 : Vec F S64x16 .f32) (ix2 k b) = (m ((c : Thread nD τ).loc main_arg0) : Vec F S16x16x4 .f32) (ix3 b ⟨k.val / 4, by omega⟩ ⟨k.val % 4, by omega⟩) := by
  unfold V
  after_reads_at

/-- The transposed first weights are the argument's. -/
theorem V_v20 (c : Dev nD) (i : Fin 32) (j : Fin 96) :
    (V m c main_call0_v20 : Vec F S32x96 .f32) (ix2 i j) = (m ((c : Thread nD τ).loc main_arg13) : Vec F S96x32 .f32) (ix2 j i) := by
  unfold V
  after_reads_at

/-- The transposed third weights are the argument's. -/
theorem V_v21 (c : Dev nD) (j : Fin 32) :
    (V m c main_call0_v21 : Vec F S1x32 .f32) (ix2 0 j) = (m ((c : Thread nD τ).loc main_arg17) : Vec F S32x1 .f32) (ix2 j 0) := by
  unfold V
  after_reads_at

/-- Row 0 of the stacked biases: the neighbours'. -/
theorem V_v19_0 (c : Dev nD) (f : Fin 32) :
    (V m c main_call0_v19 : Vec F S6x32 .f32) (ix2 0 f) = (m ((c : Thread nD τ).loc main_arg10) : Vec F S32 .f32) (ix1 f) := by
  unfold V
  after_reads_at
  after_reads_at
  change (broadcastInDim S1x32 ![1] bcast_S32_S1x32_1 (m (c, Proc.tc.devRef main_arg10) : Vec F S32 .f32) : Vec F S1x32 .f32) (ix2 0 f) = _
  pointwise
  all_goals rfl

/-- Row 1: the signs'. -/
theorem V_v19_1 (c : Dev nD) (f : Fin 32) :
    (V m c main_call0_v19 : Vec F S6x32 .f32) (ix2 1 f) = (m ((c : Thread nD τ).loc main_arg12) : Vec F S32 .f32) (ix1 f) := by
  unfold V
  after_reads_at
  after_reads_at
  change (broadcastInDim S1x32 ![1] bcast_S32_S1x32_1 (m (c, Proc.tc.devRef main_arg12) : Vec F S32 .f32) : Vec F S1x32 .f32) (ix2 0 f) = _
  pointwise
  all_goals rfl

/-- Row 2: the pedestrians'. -/
theorem V_v19_2 (c : Dev nD) (f : Fin 32) :
    (V m c main_call0_v19 : Vec F S6x32 .f32) (ix2 2 f) = (m ((c : Thread nD τ).loc main_arg8) : Vec F S32 .f32) (ix1 f) := by
  unfold V
  after_reads_at
  after_reads_at
  change (broadcastInDim S1x32 ![1] bcast_S32_S1x32_1 (m (c, Proc.tc.devRef main_arg8) : Vec F S32 .f32) : Vec F S1x32 .f32) (ix2 0 f) = _
  pointwise
  all_goals rfl

/-- Row 3: the first layer's. -/
theorem V_v19_3 (c : Dev nD) (f : Fin 32) :
    (V m c main_call0_v19 : Vec F S6x32 .f32) (ix2 3 f) = (m ((c : Thread nD τ).loc main_arg14) : Vec F S32 .f32) (ix1 f) := by
  unfold V
  after_reads_at
  after_reads_at
  change (broadcastInDim S1x32 ![1] bcast_S32_S1x32_1 (m (c, Proc.tc.devRef main_arg14) : Vec F S32 .f32) : Vec F S1x32 .f32) (ix2 0 f) = _
  pointwise
  all_goals rfl

/-- Row 4: the second layer's. -/
theorem V_v19_4 (c : Dev nD) (f : Fin 32) :
    (V m c main_call0_v19 : Vec F S6x32 .f32) (ix2 4 f) = (m ((c : Thread nD τ).loc main_arg16) : Vec F S32 .f32) (ix1 f) := by
  unfold V
  after_reads_at
  after_reads_at
  change (broadcastInDim S1x32 ![1] bcast_S32_S1x32_1 (m (c, Proc.tc.devRef main_arg16) : Vec F S32 .f32) : Vec F S1x32 .f32) (ix2 0 f) = _
  pointwise
  all_goals rfl

/-- Row 5 starts with the third layer's bias. -/
theorem V_v19_5 (c : Dev nD) :
    (V m c main_call0_v19 : Vec F S6x32 .f32) (ix2 5 0) = (m ((c : Thread nD τ).loc main_arg18) : Vec F S1 .f32) (ix1 0) := by
  unfold V
  after_reads_at
  after_reads_at
  refine Eq.trans (congrFun (cast_eq (α := Vec F S1x32 .f32) rfl _) (ix2 0 0)) ?_
  pointwise

/-! Where each window's block of a step starts, in blocks. -/

/-- Which block of the neighbour boxes a point reads. -/
theorem at_0 : ∀ t : Fin cfg0.N, win0_0.index t 0 = 0 ∧ win0_0.index t 1 = t.val ∧ win0_0.index t 2 = 0 ∧ win0_0.index t 3 = 0 := by decide +kernel
/-- Which block of the sign boxes a point reads. -/
theorem at_3 : ∀ t : Fin cfg0.N, win0_3.index t 0 = 0 ∧ win0_3.index t 1 = t.val ∧ win0_3.index t 2 = 0 ∧ win0_3.index t 3 = 0 := by decide +kernel
/-- Which block of the neighbour classes a point reads. -/
theorem at_1 : ∀ t : Fin cfg0.N, win0_1.index t 0 = 0 ∧ win0_1.index t 1 = t.val := by decide +kernel
/-- Which block of the neighbour slots a point reads. -/
theorem at_2 : ∀ t : Fin cfg0.N, win0_2.index t 0 = 0 ∧ win0_2.index t 1 = t.val := by decide +kernel
/-- Which block of the sign classes a point reads. -/
theorem at_4 : ∀ t : Fin cfg0.N, win0_4.index t 0 = 0 ∧ win0_4.index t 1 = t.val := by decide +kernel
/-- Which block of the sign slots a point reads. -/
theorem at_5 : ∀ t : Fin cfg0.N, win0_5.index t 0 = 0 ∧ win0_5.index t 1 = t.val := by decide +kernel
/-- Which block of the first weights, transposed a point reads. -/
theorem at_6 : ∀ t : Fin cfg0.N, win0_6.index t 0 = 0 ∧ win0_6.index t 1 = 0 := by decide +kernel
/-- Which block of the second weights a point reads. -/
theorem at_7 : ∀ t : Fin cfg0.N, win0_7.index t 0 = 0 ∧ win0_7.index t 1 = 0 := by decide +kernel
/-- Which block of the third weights, transposed a point reads. -/
theorem at_8 : ∀ t : Fin cfg0.N, win0_8.index t 0 = 0 ∧ win0_8.index t 1 = 0 := by decide +kernel
/-- Which block of the neighbour weights a point reads. -/
theorem at_9 : ∀ t : Fin cfg0.N, win0_9.index t 0 = 0 ∧ win0_9.index t 1 = 0 := by decide +kernel
/-- Which block of the pedestrian weights a point reads. -/
theorem at_10 : ∀ t : Fin cfg0.N, win0_10.index t 0 = 0 ∧ win0_10.index t 1 = 0 := by decide +kernel
/-- Which block of the sign weights a point reads. -/
theorem at_11 : ∀ t : Fin cfg0.N, win0_11.index t 0 = 0 ∧ win0_11.index t 1 = 0 := by decide +kernel
/-- Which block of the stacked biases a point reads. -/
theorem at_12 : ∀ t : Fin cfg0.N, win0_12.index t 0 = 0 ∧ win0_12.index t 1 = 0 := by decide +kernel
/-- Which block of the pedestrian boxes, transposed a point reads. -/
theorem at_13 : ∀ t : Fin cfg0.N, win0_13.index t 0 = 0 ∧ win0_13.index t 1 = 0 := by decide +kernel

/-- A point's block of the neighbour boxes, in terms of the argument. -/
theorem blk_0 (c : Dev nD) (t : Fin cfg0.N) (tt : Fin 16) (cb : Fin 64) (d : Fin 4) (l : Fin 128) :
    (iblk m c 0 t : Vec F S16x64x4x128 .f32) (ix4 tt cb d l) = (m ((c : Thread nD τ).loc main_arg1) : Vec F S32768x16x4 .f32) (ix3 ⟨(t.val * 64 + cb.val) * 128 + l.val, by have := lt_of_lt_of_eq t.isLt N_0; omega⟩ tt d) := by
  have ht : t.val < 4 := lt_of_lt_of_eq t.isLt N_0
  obtain ⟨h0, h1, h2, h3⟩ := at_0 t
  refine Eq.trans (b := (V m c main_call0_v2 : Vec F S16x256x4x128 .f32) (ix4 tt ⟨t.val * 64 + cb.val, by omega⟩ d l)) ?_ ?_
  · unfold iblk
    refine congrArg (V m c main_call0_v2) ?_
    blk_ext
    all_goals first | (rw [h0]; omega) | (rw [h1]; omega) | (rw [h2]; omega) | (rw [h3]; omega)
  · exact V_v2 m c _ _ _ _

/-- A point's block of the sign boxes, in terms of the argument. -/
theorem blk_3 (c : Dev nD) (t : Fin cfg0.N) (tt : Fin 16) (cb : Fin 64) (d : Fin 2) (l : Fin 128) :
    (iblk m c 3 t : Vec F S16x64x2x128 .f32) (ix4 tt cb d l) = (m ((c : Thread nD τ).loc main_arg2) : Vec F S32768x16x2 .f32) (ix3 ⟨(t.val * 64 + cb.val) * 128 + l.val, by have := lt_of_lt_of_eq t.isLt N_0; omega⟩ tt d) := by
  have ht : t.val < 4 := lt_of_lt_of_eq t.isLt N_0
  obtain ⟨h0, h1, h2, h3⟩ := at_3 t
  refine Eq.trans (b := (V m c main_call0_v5 : Vec F S16x256x2x128 .f32) (ix4 tt ⟨t.val * 64 + cb.val, by omega⟩ d l)) ?_ ?_
  · unfold iblk
    refine congrArg (V m c main_call0_v5) ?_
    blk_ext
    all_goals first | (rw [h0]; omega) | (rw [h1]; omega) | (rw [h2]; omega) | (rw [h3]; omega)
  · exact V_v5 m c _ _ _ _

/-- A point's block of the neighbour classes, in terms of the argument. -/
theorem blk_1 (c : Dev nD) (t : Fin cfg0.N) (tt : Fin 16) (n : Fin 8192) :
    (iblk m c 1 t : Vec F S16x8192 .f32) (ix2 tt n) = (m ((c : Thread nD τ).loc main_arg3) : Vec F S32768x16 .f32) (ix2 ⟨t.val * 8192 + n.val, by have := lt_of_lt_of_eq t.isLt N_0; omega⟩ tt) := by
  have ht : t.val < 4 := lt_of_lt_of_eq t.isLt N_0
  obtain ⟨h0, h1⟩ := at_1 t
  refine Eq.trans (b := (V m c main_call0_v6 : Vec F S16x32768 .f32) (ix2 tt ⟨t.val * 8192 + n.val, by omega⟩)) ?_ ?_
  · unfold iblk
    refine congrArg (V m c main_call0_v6) ?_
    blk_ext
    all_goals first | (rw [h0]; omega) | (rw [h1]; omega)
  · exact V_v6 m c _ _

/-- A point's block of the sign classes, in terms of the argument. -/
theorem blk_4 (c : Dev nD) (t : Fin cfg0.N) (tt : Fin 16) (n : Fin 8192) :
    (iblk m c 4 t : Vec F S16x8192 .f32) (ix2 tt n) = (m ((c : Thread nD τ).loc main_arg4) : Vec F S32768x16 .f32) (ix2 ⟨t.val * 8192 + n.val, by have := lt_of_lt_of_eq t.isLt N_0; omega⟩ tt) := by
  have ht : t.val < 4 := lt_of_lt_of_eq t.isLt N_0
  obtain ⟨h0, h1⟩ := at_4 t
  refine Eq.trans (b := (V m c main_call0_v7 : Vec F S16x32768 .f32) (ix2 tt ⟨t.val * 8192 + n.val, by omega⟩)) ?_ ?_
  · unfold iblk
    refine congrArg (V m c main_call0_v7) ?_
    blk_ext
    all_goals first | (rw [h0]; omega) | (rw [h1]; omega)
  · exact V_v7 m c _ _

/-- A point's block of the neighbour slots, in terms of the argument. -/
theorem blk_2 (c : Dev nD) (t : Fin cfg0.N) (n : Fin 8192) :
    (iblk m c 2 t : Vec F S1x8192 .i32) (ix2 0 n) = (m ((c : Thread nD τ).loc main_arg5) : Vec F S32768 .i32) (ix1 ⟨t.val * 8192 + n.val, by have := lt_of_lt_of_eq t.isLt N_0; omega⟩) := by
  have ht : t.val < 4 := lt_of_lt_of_eq t.isLt N_0
  obtain ⟨h0, h1⟩ := at_2 t
  refine Eq.trans (b := (V m c main_call0_v8 : Vec F S1x32768 .i32) (ix2 0 ⟨t.val * 8192 + n.val, by omega⟩)) ?_ ?_
  · unfold iblk
    refine congrArg (V m c main_call0_v8) ?_
    blk_ext
    all_goals first | (rw [h0]; omega) | (rw [h1]; omega)
  · exact V_v8 m c _

/-- A point's block of the sign slots, in terms of the argument. -/
theorem blk_5 (c : Dev nD) (t : Fin cfg0.N) (n : Fin 8192) :
    (iblk m c 5 t : Vec F S1x8192 .i32) (ix2 0 n) = (m ((c : Thread nD τ).loc main_arg6) : Vec F S32768 .i32) (ix1 ⟨t.val * 8192 + n.val, by have := lt_of_lt_of_eq t.isLt N_0; omega⟩) := by
  have ht : t.val < 4 := lt_of_lt_of_eq t.isLt N_0
  obtain ⟨h0, h1⟩ := at_5 t
  refine Eq.trans (b := (V m c main_call0_v9 : Vec F S1x32768 .i32) (ix2 0 ⟨t.val * 8192 + n.val, by omega⟩)) ?_ ?_
  · unfold iblk
    refine congrArg (V m c main_call0_v9) ?_
    blk_ext
    all_goals first | (rw [h0]; omega) | (rw [h1]; omega)
  · exact V_v9 m c _

/-- A point's block of the first weights, transposed, in terms of the argument. -/
theorem blk_6 (c : Dev nD) (t : Fin cfg0.N) (i : Fin 32) (j : Fin 96) :
    (iblk m c 6 t : Vec F S32x96 .f32) (ix2 i j) = (m ((c : Thread nD τ).loc main_arg13) : Vec F S96x32 .f32) (ix2 j i) := by
  have ht : t.val < 4 := lt_of_lt_of_eq t.isLt N_0
  obtain ⟨h0, h1⟩ := at_6 t
  refine Eq.trans (b := (V m c main_call0_v20 : Vec F S32x96 .f32) (ix2 i j)) ?_ ?_
  · unfold iblk
    refine congrArg (V m c main_call0_v20) ?_
    blk_ext
    all_goals first | (rw [h0]; omega) | (rw [h1]; omega)
  · exact V_v20 m c _ _

/-- A point's block of the second weights, in terms of the argument. -/
theorem blk_7 (c : Dev nD) (t : Fin cfg0.N) (i : Fin 32) (j : Fin 32) :
    (iblk m c 7 t : Vec F S32x32 .f32) (ix2 i j) = (m ((c : Thread nD τ).loc main_arg15) : Vec F S32x32 .f32) (ix2 i j) := by
  have ht : t.val < 4 := lt_of_lt_of_eq t.isLt N_0
  obtain ⟨h0, h1⟩ := at_7 t
  refine Eq.trans (b := (V m c main_arg15 : Vec F S32x32 .f32) (ix2 i j)) ?_ ?_
  · unfold iblk
    refine congrArg (V m c main_arg15) ?_
    blk_ext
    all_goals first | (rw [h0]; omega) | (rw [h1]; omega)
  · rw [V_main_arg15]

/-- A point's block of the third weights, transposed, in terms of the argument. -/
theorem blk_8 (c : Dev nD) (t : Fin cfg0.N) (j : Fin 32) :
    (iblk m c 8 t : Vec F S1x32 .f32) (ix2 0 j) = (m ((c : Thread nD τ).loc main_arg17) : Vec F S32x1 .f32) (ix2 j 0) := by
  have ht : t.val < 4 := lt_of_lt_of_eq t.isLt N_0
  obtain ⟨h0, h1⟩ := at_8 t
  refine Eq.trans (b := (V m c main_call0_v21 : Vec F S1x32 .f32) (ix2 0 j)) ?_ ?_
  · unfold iblk
    refine congrArg (V m c main_call0_v21) ?_
    blk_ext
    all_goals first | (rw [h0]; omega) | (rw [h1]; omega)
  · exact V_v21 m c _

/-- A point's block of the neighbour weights, in terms of the argument. -/
theorem blk_9 (c : Dev nD) (t : Fin cfg0.N) (i : Fin 4) (j : Fin 32) :
    (iblk m c 9 t : Vec F S4x32 .f32) (ix2 i j) = (m ((c : Thread nD τ).loc main_arg9) : Vec F S4x32 .f32) (ix2 i j) := by
  have ht : t.val < 4 := lt_of_lt_of_eq t.isLt N_0
  obtain ⟨h0, h1⟩ := at_9 t
  refine Eq.trans (b := (V m c main_arg9 : Vec F S4x32 .f32) (ix2 i j)) ?_ ?_
  · unfold iblk
    refine congrArg (V m c main_arg9) ?_
    blk_ext
    all_goals first | (rw [h0]; omega) | (rw [h1]; omega)
  · rw [V_main_arg9]

/-- A point's block of the pedestrian weights, in terms of the argument. -/
theorem blk_10 (c : Dev nD) (t : Fin cfg0.N) (i : Fin 4) (j : Fin 32) :
    (iblk m c 10 t : Vec F S4x32 .f32) (ix2 i j) = (m ((c : Thread nD τ).loc main_arg7) : Vec F S4x32 .f32) (ix2 i j) := by
  have ht : t.val < 4 := lt_of_lt_of_eq t.isLt N_0
  obtain ⟨h0, h1⟩ := at_10 t
  refine Eq.trans (b := (V m c main_arg7 : Vec F S4x32 .f32) (ix2 i j)) ?_ ?_
  · unfold iblk
    refine congrArg (V m c main_arg7) ?_
    blk_ext
    all_goals first | (rw [h0]; omega) | (rw [h1]; omega)
  · rw [V_main_arg7]

/-- A point's block of the sign weights, in terms of the argument. -/
theorem blk_11 (c : Dev nD) (t : Fin cfg0.N) (i : Fin 2) (j : Fin 32) :
    (iblk m c 11 t : Vec F S2x32 .f32) (ix2 i j) = (m ((c : Thread nD τ).loc main_arg11) : Vec F S2x32 .f32) (ix2 i j) := by
  have ht : t.val < 4 := lt_of_lt_of_eq t.isLt N_0
  obtain ⟨h0, h1⟩ := at_11 t
  refine Eq.trans (b := (V m c main_arg11 : Vec F S2x32 .f32) (ix2 i j)) ?_ ?_
  · unfold iblk
    refine congrArg (V m c main_arg11) ?_
    blk_ext
    all_goals first | (rw [h0]; omega) | (rw [h1]; omega)
  · rw [V_main_arg11]

/-- A point's block of the pedestrian boxes, transposed, in terms of the argument. -/
theorem blk_13 (c : Dev nD) (t : Fin cfg0.N) (k : Fin 64) (b : Fin 16) :
    (iblk m c 13 t : Vec F S64x16 .f32) (ix2 k b) = (m ((c : Thread nD τ).loc main_arg0) : Vec F S16x16x4 .f32) (ix3 b ⟨k.val / 4, by omega⟩ ⟨k.val % 4, by omega⟩) := by
  have ht : t.val < 4 := lt_of_lt_of_eq t.isLt N_0
  obtain ⟨h0, h1⟩ := at_13 t
  refine Eq.trans (b := (V m c main_call0_v11 : Vec F S64x16 .f32) (ix2 k b)) ?_ ?_
  · unfold iblk
    refine congrArg (V m c main_call0_v11) ?_
    blk_ext
    all_goals first | (rw [h0]; omega) | (rw [h1]; omega)
  · exact V_v11 m c _ _

/-- Row 0 of a point's block of the stacked biases. -/
theorem blk_12_0 (c : Dev nD) (t : Fin cfg0.N) (f : Fin 32) :
    (iblk m c 12 t : Vec F S6x32 .f32) (ix2 0 f) = (m ((c : Thread nD τ).loc main_arg10) : Vec F S32 .f32) (ix1 f) := by
  have ht : t.val < 4 := lt_of_lt_of_eq t.isLt N_0
  obtain ⟨h0, h1⟩ := at_12 t
  refine Eq.trans (b := (V m c main_call0_v19 : Vec F S6x32 .f32) (ix2 0 f)) ?_ ?_
  · unfold iblk
    refine congrArg (V m c main_call0_v19) ?_
    blk_ext
    all_goals first | (rw [h0]; omega) | (rw [h1]; omega)
  · exact V_v19_0 m c f

/-- Row 1 of a point's block of the stacked biases. -/
theorem blk_12_1 (c : Dev nD) (t : Fin cfg0.N) (f : Fin 32) :
    (iblk m c 12 t : Vec F S6x32 .f32) (ix2 1 f) = (m ((c : Thread nD τ).loc main_arg12) : Vec F S32 .f32) (ix1 f) := by
  have ht : t.val < 4 := lt_of_lt_of_eq t.isLt N_0
  obtain ⟨h0, h1⟩ := at_12 t
  refine Eq.trans (b := (V m c main_call0_v19 : Vec F S6x32 .f32) (ix2 1 f)) ?_ ?_
  · unfold iblk
    refine congrArg (V m c main_call0_v19) ?_
    blk_ext
    all_goals first | (rw [h0]; omega) | (rw [h1]; omega)
  · exact V_v19_1 m c f

/-- Row 2 of a point's block of the stacked biases. -/
theorem blk_12_2 (c : Dev nD) (t : Fin cfg0.N) (f : Fin 32) :
    (iblk m c 12 t : Vec F S6x32 .f32) (ix2 2 f) = (m ((c : Thread nD τ).loc main_arg8) : Vec F S32 .f32) (ix1 f) := by
  have ht : t.val < 4 := lt_of_lt_of_eq t.isLt N_0
  obtain ⟨h0, h1⟩ := at_12 t
  refine Eq.trans (b := (V m c main_call0_v19 : Vec F S6x32 .f32) (ix2 2 f)) ?_ ?_
  · unfold iblk
    refine congrArg (V m c main_call0_v19) ?_
    blk_ext
    all_goals first | (rw [h0]; omega) | (rw [h1]; omega)
  · exact V_v19_2 m c f

/-- Row 3 of a point's block of the stacked biases. -/
theorem blk_12_3 (c : Dev nD) (t : Fin cfg0.N) (f : Fin 32) :
    (iblk m c 12 t : Vec F S6x32 .f32) (ix2 3 f) = (m ((c : Thread nD τ).loc main_arg14) : Vec F S32 .f32) (ix1 f) := by
  have ht : t.val < 4 := lt_of_lt_of_eq t.isLt N_0
  obtain ⟨h0, h1⟩ := at_12 t
  refine Eq.trans (b := (V m c main_call0_v19 : Vec F S6x32 .f32) (ix2 3 f)) ?_ ?_
  · unfold iblk
    refine congrArg (V m c main_call0_v19) ?_
    blk_ext
    all_goals first | (rw [h0]; omega) | (rw [h1]; omega)
  · exact V_v19_3 m c f

/-- Row 4 of a point's block of the stacked biases. -/
theorem blk_12_4 (c : Dev nD) (t : Fin cfg0.N) (f : Fin 32) :
    (iblk m c 12 t : Vec F S6x32 .f32) (ix2 4 f) = (m ((c : Thread nD τ).loc main_arg16) : Vec F S32 .f32) (ix1 f) := by
  have ht : t.val < 4 := lt_of_lt_of_eq t.isLt N_0
  obtain ⟨h0, h1⟩ := at_12 t
  refine Eq.trans (b := (V m c main_call0_v19 : Vec F S6x32 .f32) (ix2 4 f)) ?_ ?_
  · unfold iblk
    refine congrArg (V m c main_call0_v19) ?_
    blk_ext
    all_goals first | (rw [h0]; omega) | (rw [h1]; omega)
  · exact V_v19_4 m c f

/-- Row 5 of a point's block of the stacked biases. -/
theorem blk_12_5 (c : Dev nD) (t : Fin cfg0.N) :
    (iblk m c 12 t : Vec F S6x32 .f32) (ix2 5 0) = (m ((c : Thread nD τ).loc main_arg18) : Vec F S1 .f32) (ix1 0) := by
  have ht : t.val < 4 := lt_of_lt_of_eq t.isLt N_0
  obtain ⟨h0, h1⟩ := at_12 t
  refine Eq.trans (b := (V m c main_call0_v19 : Vec F S6x32 .f32) (ix2 5 0)) ?_ ?_
  · unfold iblk
    refine congrArg (V m c main_call0_v19) ?_
    blk_ext
    all_goals first | (rw [h0]; omega) | (rw [h1]; omega)
  · exact V_v19_5 m c

end Cert.KernelIdeal.Hand

end
-- ==== Proof.Value.lean ====
/- What the last point leaves in the outputs: the problem's features and score, entry by entry. -/
module

public import proofs.«01_k».proof.Proof.Laid
public import proofs.«01_k».proof.Proof.Body
public import proofs.«01_k».proof.Proof.Blocks

@[expose] public section

set_option maxRecDepth 16384

noncomputable section

namespace Cert.KernelIdeal.Hand

open Cert.KernelIdeal Cert.KernelIdeal.Gen
open Idealize.ShloMosaic Idealize.ShloMosaic.TcCoe
open Idealize.SL.Sem

open Cert.Sums
open Cert.Spec (num noObj)

variable (m : (ℓ : Loc nD τ sig) → Buf (Elt Ideal) ℓ) (c : Dev nD)

/-- The problem the kernel's arguments state. -/
def args : Cert.Spec.Args where
  xp s t d := (m ((c : Thread nD τ).loc main_arg0) : Vec Ideal S16x16x4 .f32) (ix3 s t d)
  xn n t d := (m ((c : Thread nD τ).loc main_arg1) : Vec Ideal S32768x16x4 .f32) (ix3 n t d)
  xs n t d := (m ((c : Thread nD τ).loc main_arg2) : Vec Ideal S32768x16x2 .f32) (ix3 n t d)
  cn n t := (m ((c : Thread nD τ).loc main_arg3) : Vec Ideal S32768x16 .f32) (ix2 n t)
  cs n t := (m ((c : Thread nD τ).loc main_arg4) : Vec Ideal S32768x16 .f32) (ix2 n t)
  gn n := (m ((c : Thread nD τ).loc main_arg5) : Vec Ideal S32768 .i32) (ix1 n)
  gs n := (m ((c : Thread nD τ).loc main_arg6) : Vec Ideal S32768 .i32) (ix1 n)
  wp d f := (m ((c : Thread nD τ).loc main_arg7) : Vec Ideal S4x32 .f32) (ix2 d f)
  bp f := (m ((c : Thread nD τ).loc main_arg8) : Vec Ideal S32 .f32) (ix1 f)
  wn d f := (m ((c : Thread nD τ).loc main_arg9) : Vec Ideal S4x32 .f32) (ix2 d f)
  bn f := (m ((c : Thread nD τ).loc main_arg10) : Vec Ideal S32 .f32) (ix1 f)
  ws d f := (m ((c : Thread nD τ).loc main_arg11) : Vec Ideal S2x32 .f32) (ix2 d f)
  bs f := (m ((c : Thread nD τ).loc main_arg12) : Vec Ideal S32 .f32) (ix1 f)
  w1 k f := (m ((c : Thread nD τ).loc main_arg13) : Vec Ideal S96x32 .f32) (ix2 k f)
  b1 f := (m ((c : Thread nD τ).loc main_arg14) : Vec Ideal S32 .f32) (ix1 f)
  w2 k f := (m ((c : Thread nD τ).loc main_arg15) : Vec Ideal S32x32 .f32) (ix2 k f)
  b2 f := (m ((c : Thread nD τ).loc main_arg16) : Vec Ideal S32 .f32) (ix1 f)
  w3 k := (m ((c : Thread nD τ).loc main_arg17) : Vec Ideal S32x1 .f32) (ix2 k 0)
  b3 := (m ((c : Thread nD τ).loc main_arg18) : Vec Ideal S1 .f32) (ix1 0)

/-- The bias columns hold the biases. -/
theorem bc_0 (r : Fin 512) : ((lay m c).bc (ix2 r 0) : EReal) = (args m c).bn (fOf r) :=
  (biasCols_at _ r 0).trans (blk_12_0 m c t0_0 (fOf r))
/-- Column 1 of the bias columns: the signs'. -/
theorem bc_1 (r : Fin 512) : ((lay m c).bc (ix2 r 1) : EReal) = (args m c).bs (fOf r) :=
  (biasCols_at _ r 1).trans (blk_12_1 m c t0_0 (fOf r))
/-- Column 2: the pedestrians'. -/
theorem bc_2 (r : Fin 512) : ((lay m c).bc (ix2 r 2) : EReal) = (args m c).bp (fOf r) :=
  (biasCols_at _ r 2).trans (blk_12_2 m c t0_0 (fOf r))
/-- Column 3: the first layer's. -/
theorem bc_3 (r : Fin 512) : ((lay m c).bc (ix2 r 3) : EReal) = (args m c).b1 (fOf r) :=
  (biasCols_at _ r 3).trans (blk_12_3 m c t0_0 (fOf r))
/-- Column 4: the second layer's. -/
theorem bc_4 (r : Fin 512) : ((lay m c).bc (ix2 r 4) : EReal) = (args m c).b2 (fOf r) :=
  (biasCols_at _ r 4).trans (blk_12_4 m c t0_0 (fOf r))

/-- One object's share of a sum: its embedding with a missing object's inputs zeroed, and whether it is missing. -/
def shareF {D : ℕ} (x : Fin 32768 → Fin 16 → Fin D → EReal) (cls : Fin 32768 → Fin 16 → EReal) (seg : Fin 32768 → BitVec 32)
    (w : Fin D → Fin 32 → EReal) (β : Fin 32 → EReal) (s t : Fin 16) (f : Fin 32) (n : Fin 32768) : EReal :=
  max (∑ d, w d f * (x n t d * num (cls n t ≠ noObj)) + β f) 0 * num (seg n = BitVec.ofNat 32 s.val)
/-- An object's share of the count of masked objects. -/
def shareC (cls : Fin 32768 → Fin 16 → EReal) (seg : Fin 32768 → BitVec 32) (s t : Fin 16) (n : Fin 32768) : EReal :=
  (1 - num (cls n t ≠ noObj)) * num (seg n = BitVec.ofNat 32 s.val)

/-- An equality's number, either way round. -/
theorem num_comm (x y : BitVec 32) : num (x = y) = num (y = x) := if_congr eq_comm rfl rfl

/-- Object `n` of point `t`'s block. -/
def objOf (t : Fin cfg0.N) (n : Fin 8192) : Fin 32768 := ⟨t.val * 8192 + n.val, by have := lt_of_lt_of_eq t.isLt N_0; omega⟩

/-- What one block contributes. -/
theorem featN_blk (t : Fin cfg0.N) (r : Fin 512) (s : Fin 16) :
    (featN (lay m c).dn (lay m c).bc (insAt m c t) (ix2 r s) : EReal)
      = ∑ n : Fin 8192, shareF (args m c).xn (args m c).cn (args m c).gn (args m c).wn (args m c).bn s (tOf r) (fOf r) (objOf t n) := by
  refine (featN_at _ _ (insAt m c t) r s).trans (Finset.sum_congr rfl fun n _ => ?_)
  unfold shareF
  have hx : ∀ d, ((iblk m c 0 t : Vec Ideal S16x64x4x128 .f32) (ix4 (tOf r) ⟨n.val / 128, by omega⟩ d ⟨n.val % 128, Nat.mod_lt _ (by decide)⟩) : EReal) = (args m c).xn (objOf t n) (tOf r) d := by
    intro d
    refine (blk_0 m c t (tOf r) ⟨n.val / 128, by omega⟩ d ⟨n.val % 128, Nat.mod_lt _ (by decide)⟩).trans ?_
    refine congrArg (fun k => (args m c).xn k (tOf r) d) (Fin.ext ?_)
    show (t.val * 64 + n.val / 128) * 128 + n.val % 128 = t.val * 8192 + n.val
    omega
  have hc : ((iblk m c 1 t : Vec Ideal S16x8192 .f32) (ix2 (tOf r) n) : EReal) = (args m c).cn (objOf t n) (tOf r) := blk_1 m c t (tOf r) n
  have hg : (insAt m c t).x2 (ix2 0 n) = (args m c).gn (objOf t n) := blk_2 m c t n
  have hw : ∀ d, ((iblk m c 9 t0_0 : Vec Ideal S4x32 .f32) (ix2 d (fOf r)) : EReal) = (args m c).wn d (fOf r) := fun d => blk_9 m c t0_0 d (fOf r)
  rw [hg, num_comm, bc_0 m c r]
  simp only [hx, hc, hw]

/-- A block's neighbour count is the sum of its objects' shares. -/
theorem cntN_blk (t : Fin cfg0.N) (tt : Fin 16) (s : Fin 16) :
    (cntN (insAt m c t) (ix2 tt s) : EReal) = ∑ n : Fin 8192, shareC (args m c).cn (args m c).gn s tt (objOf t n) := by
  refine (cntN_at (insAt m c t) tt s).trans (Finset.sum_congr rfl fun n _ => ?_)
  unfold shareC
  have hc : ((iblk m c 1 t : Vec Ideal S16x8192 .f32) (ix2 tt n) : EReal) = (args m c).cn (objOf t n) tt := blk_1 m c t tt n
  have hg : (insAt m c t).x2 (ix2 0 n) = (args m c).gn (objOf t n) := blk_2 m c t n
  rw [hg, num_comm]
  simp only [hc]

/-- A block's sign sums are the sum of its objects' shares. -/
theorem featS_blk (t : Fin cfg0.N) (r : Fin 512) (s : Fin 16) :
    (featS (lay m c).ds (lay m c).bc (insAt m c t) (ix2 r s) : EReal)
      = ∑ n : Fin 8192, shareF (args m c).xs (args m c).cs (args m c).gs (args m c).ws (args m c).bs s (tOf r) (fOf r) (objOf t n) := by
  refine (featS_at _ _ (insAt m c t) r s).trans (Finset.sum_congr rfl fun n _ => ?_)
  unfold shareF
  have hx : ∀ d, ((iblk m c 3 t : Vec Ideal S16x64x2x128 .f32) (ix4 (tOf r) ⟨n.val / 128, by omega⟩ d ⟨n.val % 128, Nat.mod_lt _ (by decide)⟩) : EReal) = (args m c).xs (objOf t n) (tOf r) d := by
    intro d
    refine (blk_3 m c t (tOf r) ⟨n.val / 128, by omega⟩ d ⟨n.val % 128, Nat.mod_lt _ (by decide)⟩).trans ?_
    refine congrArg (fun k => (args m c).xs k (tOf r) d) (Fin.ext ?_)
    show (t.val * 64 + n.val / 128) * 128 + n.val % 128 = t.val * 8192 + n.val
    omega
  have hc : ((iblk m c 4 t : Vec Ideal S16x8192 .f32) (ix2 (tOf r) n) : EReal) = (args m c).cs (objOf t n) (tOf r) := blk_4 m c t (tOf r) n
  have hg : (insAt m c t).x5 (ix2 0 n) = (args m c).gs (objOf t n) := blk_5 m c t n
  have hw : ∀ d, ((iblk m c 11 t0_0 : Vec Ideal S2x32 .f32) (ix2 d (fOf r)) : EReal) = (args m c).ws d (fOf r) := fun d => blk_11 m c t0_0 d (fOf r)
  rw [hg, num_comm, bc_1 m c r]
  simp only [hx, hc, hw]

/-- A block's sign count is the sum of its objects' shares. -/
theorem cntS_blk (t : Fin cfg0.N) (tt : Fin 16) (s : Fin 16) :
    (k0_pay1 (k0_pay53 (insAt m c t).x4) (k0_pay54 (insAt m c t).x5) (k0_pay56 (F := Ideal)) (ix2 tt s) : EReal) = ∑ n : Fin 8192, shareC (args m c).cs (args m c).gs s tt (objOf t n) := by
  refine (cntS_at (insAt m c t) tt s).trans (Finset.sum_congr rfl fun n _ => ?_)
  unfold shareC
  have hc : ((iblk m c 4 t : Vec Ideal S16x8192 .f32) (ix2 tt n) : EReal) = (args m c).cs (objOf t n) tt := blk_4 m c t tt n
  have hg : (insAt m c t).x5 (ix2 0 n) = (args m c).gs (objOf t n) := blk_5 m c t n
  rw [hg, num_comm]
  simp only [hc]

/-- Four blocks' sums are the sum over all objects. -/
theorem four (g : Fin 32768 → EReal) (h0 : 0 < cfg0.N) (h1 : 1 < cfg0.N) (h2 : 2 < cfg0.N) (h3 : 3 < cfg0.N) :
    ∑ n, g (objOf ⟨0, h0⟩ n) + ∑ n, g (objOf ⟨1, h1⟩ n) + ∑ n, g (objOf ⟨2, h2⟩ n) + ∑ n, g (objOf ⟨3, h3⟩ n) = ∑ n, g n := by
  rw [blocks (N := 32768) (T := 4) (d := 8192) rfl g, Fin.sum_univ_four]
  rfl

/-- The sums and counts after the last point. -/
theorem sumN (h3 : 3 < cfg0.N) (r : Fin 512) (s : Fin 16) :
    ((accAt m c 3 h3).fn (ix2 r s) : EReal)
      = ∑ n, shareF (args m c).xn (args m c).cn (args m c).gn (args m c).wn (args m c).bn s (tOf r) (fOf r) n := by
  have h2 : 2 < cfg0.N := by omega
  have h1 : 1 < cfg0.N := by omega
  have h0 : 0 < cfg0.N := by omega
  rw [← four _ h0 h1 h2 h3]
  refine ((accNext_f (lay m c) (insAt m c ⟨3, h3⟩) (accAt m c 2 h2) r s).1).trans (congrArg₂ (fun a b : EReal => a + b) ?_ (featN_blk m c ⟨3, h3⟩ r s))
  refine ((accNext_f (lay m c) (insAt m c ⟨2, h2⟩) (accAt m c 1 h1) r s).1).trans (congrArg₂ (fun a b : EReal => a + b) ?_ (featN_blk m c ⟨2, h2⟩ r s))
  refine ((accNext_f (lay m c) (insAt m c ⟨1, h1⟩) (accAt m c 0 h0) r s).1).trans (congrArg₂ (fun a b : EReal => a + b) ?_ (featN_blk m c ⟨1, h1⟩ r s))
  exact featN_blk m c ⟨0, h0⟩ r s

/-- After the last block the neighbour count is over all objects. -/
theorem countN (h3 : 3 < cfg0.N) (t s : Fin 16) :
    ((accAt m c 3 h3).cn (ix2 t s) : EReal) = ∑ n, shareC (args m c).cn (args m c).gn s t n := by
  have h2 : 2 < cfg0.N := by omega
  have h1 : 1 < cfg0.N := by omega
  have h0 : 0 < cfg0.N := by omega
  rw [← four _ h0 h1 h2 h3]
  refine ((accNext_c (lay m c) (insAt m c ⟨3, h3⟩) (accAt m c 2 h2) t s).1).trans (congrArg₂ (fun a b : EReal => a + b) ?_ (cntN_blk m c ⟨3, h3⟩ t s))
  refine ((accNext_c (lay m c) (insAt m c ⟨2, h2⟩) (accAt m c 1 h1) t s).1).trans (congrArg₂ (fun a b : EReal => a + b) ?_ (cntN_blk m c ⟨2, h2⟩ t s))
  refine ((accNext_c (lay m c) (insAt m c ⟨1, h1⟩) (accAt m c 0 h0) t s).1).trans (congrArg₂ (fun a b : EReal => a + b) ?_ (cntN_blk m c ⟨1, h1⟩ t s))
  exact ((accFirst_at (lay m c) (insAt m c ⟨0, h0⟩) t s).1).trans (cntN_blk m c ⟨0, h0⟩ t s)

/-- After the last block the sign sums are over all objects. -/
theorem sumS (h3 : 3 < cfg0.N) (r : Fin 512) (s : Fin 16) :
    ((accAt m c 3 h3).fs (ix2 r s) : EReal)
      = ∑ n, shareF (args m c).xs (args m c).cs (args m c).gs (args m c).ws (args m c).bs s (tOf r) (fOf r) n := by
  have h2 : 2 < cfg0.N := by omega
  have h1 : 1 < cfg0.N := by omega
  have h0 : 0 < cfg0.N := by omega
  rw [← four _ h0 h1 h2 h3]
  refine ((accNext_f (lay m c) (insAt m c ⟨3, h3⟩) (accAt m c 2 h2) r s).2).trans (congrArg₂ (fun a b : EReal => a + b) ?_ (featS_blk m c ⟨3, h3⟩ r s))
  refine ((accNext_f (lay m c) (insAt m c ⟨2, h2⟩) (accAt m c 1 h1) r s).2).trans (congrArg₂ (fun a b : EReal => a + b) ?_ (featS_blk m c ⟨2, h2⟩ r s))
  refine ((accNext_f (lay m c) (insAt m c ⟨1, h1⟩) (accAt m c 0 h0) r s).2).trans (congrArg₂ (fun a b : EReal => a + b) ?_ (featS_blk m c ⟨1, h1⟩ r s))
  exact featS_blk m c ⟨0, h0⟩ r s

/-- After the last block the sign count is over all objects. -/
theorem countS (h3 : 3 < cfg0.N) (t s : Fin 16) :
    ((accAt m c 3 h3).cs (ix2 t s) : EReal) = ∑ n, shareC (args m c).cs (args m c).gs s t n := by
  have h2 : 2 < cfg0.N := by omega
  have h1 : 1 < cfg0.N := by omega
  have h0 : 0 < cfg0.N := by omega
  rw [← four _ h0 h1 h2 h3]
  refine ((accNext_c (lay m c) (insAt m c ⟨3, h3⟩) (accAt m c 2 h2) t s).2).trans (congrArg₂ (fun a b : EReal => a + b) ?_ (cntS_blk m c ⟨3, h3⟩ t s))
  refine ((accNext_c (lay m c) (insAt m c ⟨2, h2⟩) (accAt m c 1 h1) t s).2).trans (congrArg₂ (fun a b : EReal => a + b) ?_ (cntS_blk m c ⟨2, h2⟩ t s))
  refine ((accNext_c (lay m c) (insAt m c ⟨1, h1⟩) (accAt m c 0 h0) t s).2).trans (congrArg₂ (fun a b : EReal => a + b) ?_ (cntS_blk m c ⟨1, h1⟩ t s))
  exact ((accFirst_at (lay m c) (insAt m c ⟨0, h0⟩) t s).2).trans (cntS_blk m c ⟨0, h0⟩ t s)

/-- The results: the features, -/
theorem outN_eq (h3 : 3 < cfg0.N) (hb : ∀ f, (args m c).bn f < ⊤) (r : Fin 512) (s : Fin 16) :
    (outN (lay m c) (accAt m c 3 h3) (ix2 r s) : EReal) = Cert.Spec.aggN (args m c) s (tOf r) (fOf r) := by
  refine (outN_at _ _ r s).trans ?_
  rw [bc_0 m c r]
  refine Eq.trans (congrArg₂ (fun a b : EReal => a - max ((args m c).bn (fOf r)) 0 * b) (sumN m c h3 r s) (countN m c h3 (tOf r) s)) ?_
  exact Cert.Spec.take_off _ _ _ (hb (fOf r)) _ _

/-- The signs' corrected sums are the problem's. -/
theorem outS_eq (h3 : 3 < cfg0.N) (hb : ∀ f, (args m c).bs f < ⊤) (r : Fin 512) (s : Fin 16) :
    (outS (lay m c) (accAt m c 3 h3) (ix2 r s) : EReal) = Cert.Spec.aggS (args m c) s (tOf r) (fOf r) := by
  refine (outS_at _ _ r s).trans ?_
  rw [bc_1 m c r]
  refine Eq.trans (congrArg₂ (fun a b : EReal => a - max ((args m c).bs (fOf r)) 0 * b) (sumS m c h3 r s) (countS m c h3 (tOf r) s)) ?_
  exact Cert.Spec.take_off _ _ _ (hb (fOf r)) _ _

/-- the pedestrians', -/
theorem outP_eq (t : Fin cfg0.N) (r : Fin 512) (s : Fin 16) :
    (outP (lay m c) (insAt m c t) (ix2 r s) : EReal) = Cert.Spec.ped (args m c) s (tOf r) (fOf r) := by
  refine (outP_at _ _ r s).trans ?_
  unfold Cert.Spec.ped Cert.Spec.emb
  rw [bc_2 m c r]
  refine congrArg (fun z : EReal => max (z + (args m c).bp (fOf r)) 0) (Finset.sum_congr rfl fun d _ => ?_)
  rw [mul_comm]
  refine congrArg₂ (fun a b : EReal => a * b) ((blk_13 m c t _ s).trans ?_) (blk_10 m c t d (fOf r))
  refine congrArg₂ (fun a b => (args m c).xp s a b) (Fin.ext ?_) (Fin.ext ?_)
  · show ((tOf r).val * 4 + d.val) / 4 = (tOf r).val
    omega
  · show ((tOf r).val * 4 + d.val) % 4 = d.val
    omega

/-- the classifier's layers, and the score. -/
theorem hid1_eq (t : Fin cfg0.N) (h3 : 3 < cfg0.N) (hn : ∀ f, (args m c).bn f < ⊤) (hs : ∀ f, (args m c).bs f < ⊤) (r : Fin 512) (s : Fin 16) :
    (hid1 (lay m c) (insAt m c t) (accAt m c 3 h3) (ix2 r s) : EReal) = Cert.Spec.h1 (args m c) s (tOf r) (fOf r) := by
  refine (hid1_at _ _ _ r s).trans ?_
  rw [Cert.Spec.h1_split, bc_3 m c r]
  have e : ∀ (k : Fin 96), ((iblk m c 6 t : Vec Ideal S32x96 .f32) (ix2 (fOf r) k) : EReal) = (args m c).w1 k (fOf r) := fun k => blk_6 m c t (fOf r) k
  have p : ∀ g, (outP (lay m c) (insAt m c t) (ix2 (rowOf (tOf r) g) s) : EReal) = Cert.Spec.ped (args m c) s (tOf r) g := fun g => by
    refine (outP_eq m c t _ s).trans ?_
    rw [tOf_row, fOf_row]
  have n : ∀ g, (outN (lay m c) (accAt m c 3 h3) (ix2 (rowOf (tOf r) g) s) : EReal) = Cert.Spec.aggN (args m c) s (tOf r) g := fun g => by
    refine (outN_eq m c h3 hn _ s).trans ?_
    rw [tOf_row, fOf_row]
  have q : ∀ g, (outS (lay m c) (accAt m c 3 h3) (ix2 (rowOf (tOf r) g) s) : EReal) = Cert.Spec.aggS (args m c) s (tOf r) g := fun g => by
    refine (outS_eq m c h3 hs _ s).trans ?_
    rw [tOf_row, fOf_row]
  simp only [e, p, n, q]

/-- The second hidden layer is the problem's. -/
theorem hid2_eq (t : Fin cfg0.N) (h3 : 3 < cfg0.N) (hn : ∀ f, (args m c).bn f < ⊤) (hs : ∀ f, (args m c).bs f < ⊤) (r : Fin 512) (s : Fin 16) :
    (hid2 (lay m c) (insAt m c t) (accAt m c 3 h3) (ix2 r s) : EReal) = Cert.Spec.h2 (args m c) s (tOf r) (fOf r) := by
  refine (hid2_at _ _ _ r s).trans ?_
  rw [Cert.Spec.h2_comm, bc_4 m c r]
  have e : ∀ (g : Fin 32), ((iblk m c 7 t : Vec Ideal S32x32 .f32) (ix2 g (fOf r)) : EReal) = (args m c).w2 g (fOf r) := fun g => blk_7 m c t g (fOf r)
  have p : ∀ g, (hid1 (lay m c) (insAt m c t) (accAt m c 3 h3) (ix2 (rowOf (tOf r) g) s) : EReal) = Cert.Spec.h1 (args m c) s (tOf r) g := fun g => by
    refine (hid1_eq m c t h3 hn hs _ s).trans ?_
    rw [tOf_row, fOf_row]
  simp only [e, p]

/-- The scores are the problem's. -/
theorem outC_eq (t : Fin cfg0.N) (h3 : 3 < cfg0.N) (hn : ∀ f, (args m c).bn f < ⊤) (hs : ∀ f, (args m c).bs f < ⊤) (tt s : Fin 16) :
    (outC (lay m c) (insAt m c t) (accAt m c 3 h3) (ix2 tt s) : EReal) = Cert.Spec.score (args m c) s tt := by
  refine (outC_at _ _ _ tt s).trans ?_
  rw [Cert.Spec.score_comm]
  have e : ∀ (g : Fin 32), ((iblk m c 8 t : Vec Ideal S1x32 .f32) (ix2 0 g) : EReal) = (args m c).w3 g := fun g => blk_8 m c t g
  have p : ∀ g, (hid2 (lay m c) (insAt m c t) (accAt m c 3 h3) (ix2 (rowOf tt g) s) : EReal) = Cert.Spec.h2 (args m c) s tt g := fun g => by
    refine (hid2_eq m c t h3 hn hs _ s).trans ?_
    rw [tOf_row, fOf_row]
  have q : ((iblk m c 12 t : Vec Ideal S6x32 .f32) (ix2 5 0) : EReal) = (args m c).b3 := blk_12_5 m c t
  simp only [e, p, q]

end Cert.KernelIdeal.Hand

end
-- ==== Proof.Result.lean ====
/- What a run leaves: the four output arrays, and the two results the closing host operations make of them. -/
module

public import proofs.«01_k».proof.Proof.Value

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- The first output array ends holding the neighbours' aggregate. -/
theorem arr14 : (dats m 0 c).arrAt 14 cfg0.N = outN (lay m c) (accAt m c 3 (t0_3).isLt) := by
  refine (dats m 0 c).arrAt_eq_of_after_last 14 t0_3 (by decide +kernel) _ fun j => ?_
  blk_simp
  rw [after14]
  rfl

/-- The second holds the signs' aggregate. -/
theorem arr15 : (dats m 0 c).arrAt 15 cfg0.N = outS (lay m c) (accAt m c 3 (t0_3).isLt) := by
  refine (dats m 0 c).arrAt_eq_of_after_last 15 t0_3 (by decide +kernel) _ fun j => ?_
  blk_simp
  rw [after15]
  rfl

/-- The third holds the pedestrian embedding. -/
theorem arr16 : (dats m 0 c).arrAt 16 cfg0.N = outP (lay m c) (insAt m c t0_3) := by
  refine (dats m 0 c).arrAt_eq_of_after_last 16 t0_3 (by decide +kernel) _ fun j => ?_
  blk_simp
  rw [after16]
  rfl

/-- The fourth holds the scores. -/
theorem arr17 : (dats m 0 c).arrAt 17 cfg0.N = outC (lay m c) (insAt m c t0_3) (accAt m c 3 (t0_3).isLt) := by
  refine (dats m 0 c).arrAt_eq_of_after_last 17 t0_3 (by decide +kernel) _ fun j => ?_
  blk_simp
  rw [after17]
  rfl

/-- The output arrays as the closing operations find them. -/
theorem found14 (dats : (p : Fin 1) → (c : Dev nD) → Pipeline.Dat τ (Elt Ideal) Unit ℕ (UR sig nD τ) ℕ (cfgs p) c) :
    Pipeline.withArrays (cfgs 0).spec c (V0 m c) (fun w => (dats 0 c).arrAt w (cfgs 0).N) (Proc.devRef .tc main_call0_v22_0)
      = (dats 0 c).arrAt 14 cfg0.N :=
  Pipeline.withArrays_arr (cfgs 0).spec (by decide) c _ _ 14
/-- The signs' sums as the closing operations find them. -/
theorem found15 (dats : (p : Fin 1) → (c : Dev nD) → Pipeline.Dat τ (Elt Ideal) Unit ℕ (UR sig nD τ) ℕ (cfgs p) c) :
    Pipeline.withArrays (cfgs 0).spec c (V0 m c) (fun w => (dats 0 c).arrAt w (cfgs 0).N) (Proc.devRef .tc main_call0_v22_1)
      = (dats 0 c).arrAt 15 cfg0.N :=
  Pipeline.withArrays_arr (cfgs 0).spec (by decide) c _ _ 15
/-- The pedestrian embedding as they find it. -/
theorem found16 (dats : (p : Fin 1) → (c : Dev nD) → Pipeline.Dat τ (Elt Ideal) Unit ℕ (UR sig nD τ) ℕ (cfgs p) c) :
    Pipeline.withArrays (cfgs 0).spec c (V0 m c) (fun w => (dats 0 c).arrAt w (cfgs 0).N) (Proc.devRef .tc main_call0_v22_2)
      = (dats 0 c).arrAt 16 cfg0.N :=
  Pipeline.withArrays_arr (cfgs 0).spec (by decide) c _ _ 16
/-- The scores as they find them. -/
theorem found17 (dats : (p : Fin 1) → (c : Dev nD) → Pipeline.Dat τ (Elt Ideal) Unit ℕ (UR sig nD τ) ℕ (cfgs p) c) :
    Pipeline.withArrays (cfgs 0).spec c (V0 m c) (fun w => (dats 0 c).arrAt w (cfgs 0).N) (Proc.devRef .tc main_call0_v22_3)
      = (dats 0 c).arrAt 17 cfg0.N :=
  Pipeline.withArrays_arr (cfgs 0).spec (by decide) c _ _ 17

/-- The first result at an entry: the transposed scores. -/
theorem tail_score (s t : Fin 16) :
    (Pipeline.afterTail₀ cfgs (dats m) 0 (V0 m) [hostOps1] c main_v0_0 : Vec Ideal S16x16x1 .f32) (ix3 s t 0)
      = outC (lay m c) (insAt m c t0_3) (accAt m c 3 (t0_3).isLt) (ix2 t s) := by
  rw [← arr17]
  unfold Pipeline.afterTail₀
  after_reads_at
  exact congrFun (found17 m c (dats m)) (ix2 t s)

/-- The second result at a pedestrian entry. -/
theorem tail_ped (s t : Fin 16) (f : Fin 32) :
    (Pipeline.afterTail₀ cfgs (dats m) 0 (V0 m) [hostOps1] c main_v0_1 : Vec Ideal S16x16x96 .f32) (ix3 s t ⟨f.val, by omega⟩)
      = outP (lay m c) (insAt m c t0_3) (ix2 ⟨t.val * 32 + f.val, by omega⟩ s) := by
  rw [← arr16]
  unfold Pipeline.afterTail₀
  after_reads_at
  after_reads_at
  exact congrFun (found16 m c (dats m)) (ix2 ⟨t.val * 32 + f.val, by omega⟩ s)

/-- The second result at a neighbour entry. -/
theorem tail_aggN (s t : Fin 16) (f : Fin 32) :
    (Pipeline.afterTail₀ cfgs (dats m) 0 (V0 m) [hostOps1] c main_v0_1 : Vec Ideal S16x16x96 .f32) (ix3 s t ⟨32 + f.val, by omega⟩)
      = outN (lay m c) (accAt m c 3 (t0_3).isLt) (ix2 ⟨t.val * 32 + f.val, by omega⟩ s) := by
  rw [← arr14]
  unfold Pipeline.afterTail₀
  after_reads_at
  after_reads_at
  exact congrFun (found14 m c (dats m)) (ix2 ⟨t.val * 32 + f.val, by omega⟩ s)

/-- The second result at a sign entry. -/
theorem tail_aggS (s t : Fin 16) (f : Fin 32) :
    (Pipeline.afterTail₀ cfgs (dats m) 0 (V0 m) [hostOps1] c main_v0_1 : Vec Ideal S16x16x96 .f32) (ix3 s t ⟨64 + f.val, by omega⟩)
      = outS (lay m c) (accAt m c 3 (t0_3).isLt) (ix2 ⟨t.val * 32 + f.val, by omega⟩ s) := by
  rw [← arr15]
  unfold Pipeline.afterTail₀
  after_reads_at
  rw [dif_neg (by omega), dif_neg (by omega)]
  after_reads_at
  refine Eq.trans (congrFun (cast_eq (α := Vec Ideal S16x16x32 .f32) rfl _) (ix3 s t ⟨64 + f.val - 32 - 32, by omega⟩)) ?_
  refine Eq.trans (congrFun (found15 m c (dats m)) _) ?_
  refine congrArg (fun r : Fin 512 => ((dats m 0 c).arrAt 15 cfg0.N : Vec Ideal S512x16 .f32) (ix2 r s)) (Fin.ext ?_)
  show t.val * 32 + (64 + f.val - 32 - 32) = t.val * 32 + f.val
  omega

/-- The first result is the score. -/
theorem score_at (hn : ∀ f, (args m c).bn f < ⊤) (hs : ∀ f, (args m c).bs f < ⊤) (s t : Fin 16) :
    ((Pipeline.afterTail₀ cfgs (dats m) 0 (V0 m) [hostOps1] c main_v0_0 : Vec Ideal S16x16x1 .f32) (ix3 s t 0) : EReal)
      = Cert.Spec.score (args m c) s t :=
  (tail_score m c s t).trans (outC_eq m c t0_3 (t0_3).isLt hn hs t s)

/-- The second result is the features. -/
theorem feat_at (hn : ∀ f, (args m c).bn f < ⊤) (hs : ∀ f, (args m c).bs f < ⊤) (s t : Fin 16) (k : Fin 96) :
    ((Pipeline.afterTail₀ cfgs (dats m) 0 (V0 m) [hostOps1] c main_v0_1 : Vec Ideal S16x16x96 .f32) (ix3 s t k) : EReal)
      = Cert.Spec.feat (args m c) s t k := by
  have hk := k.isLt
  by_cases h : k.val < 32
  · obtain ⟨f, e⟩ : ∃ f : Fin 32, k = ⟨f.val, by omega⟩ := ⟨⟨k.val, h⟩, rfl⟩
    rw [e]
    refine (tail_ped m c s t f).trans ((outP_eq m c t0_3 (rowOf t f) s).trans ?_)
    rw [tOf_row, fOf_row, Cert.Spec.feat_ped]
  · by_cases h2 : k.val < 64
    · obtain ⟨f, e⟩ : ∃ f : Fin 32, k = ⟨32 + f.val, by omega⟩ :=
        ⟨⟨k.val - 32, by omega⟩, Fin.ext (by show k.val = 32 + (k.val - 32); omega)⟩
      rw [e]
      refine (tail_aggN m c s t f).trans ((outN_eq m c (t0_3).isLt hn (rowOf t f) s).trans ?_)
      rw [tOf_row, fOf_row, Cert.Spec.feat_aggN]
    · obtain ⟨f, e⟩ : ∃ f : Fin 32, k = ⟨64 + f.val, by omega⟩ :=
        ⟨⟨k.val - 64, by omega⟩, Fin.ext (by show k.val = 64 + (k.val - 64); omega)⟩
      rw [e]
      refine (tail_aggS m c s t f).trans ((outS_eq m c (t0_3).isLt hs (rowOf t f) s).trans ?_)
      rw [tOf_row, fOf_row, Cert.Spec.feat_aggS]

end Cert.KernelIdeal.Hand

end
-- ==== Proof.Ref.lean ====
/- The reference's two results, read at an index: the problem's features and score. -/
module

public import proofs.«01_k».proof.Proof.Gen.ReferenceIdeal.Read
public import proofs.«01_k».proof.Proof.Spec
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.Spec

/-- The problem that nineteen arrays state. -/
def args (x0 : FVec Ideal S16x16x4 .f32) (x1 : FVec Ideal S32768x16x4 .f32) (x2 : FVec Ideal S32768x16x2 .f32) (x3 x4 : FVec Ideal S32768x16 .f32)
    (x5 x6 : IVec S32768 32) (x7 : FVec Ideal S4x32 .f32) (x8 : FVec Ideal S32 .f32) (x9 : FVec Ideal S4x32 .f32) (x10 : FVec Ideal S32 .f32)
    (x11 : FVec Ideal S2x32 .f32) (x12 : FVec Ideal S32 .f32) (x13 : FVec Ideal S96x32 .f32) (x14 : FVec Ideal S32 .f32) (x15 : FVec Ideal S32x32 .f32)
    (x16 : FVec Ideal S32 .f32) (x17 : FVec Ideal S32x1 .f32) (x18 : FVec Ideal S1 .f32) : Args where
  xp s t d := x0 (ix3 s t d)
  xn n t d := x1 (ix3 n t d)
  xs n t d := x2 (ix3 n t d)
  cn n t := x3 (ix2 n t)
  cs n t := x4 (ix2 n t)
  gn n := x5 (ix1 n)
  gs n := x6 (ix1 n)
  wp d f := x7 (ix2 d f)
  bp f := x8 (ix1 f)
  wn d f := x9 (ix2 d f)
  bn f := x10 (ix1 f)
  ws d f := x11 (ix2 d f)
  bs f := x12 (ix1 f)
  w1 k f := x13 (ix2 k f)
  b1 f := x14 (ix1 f)
  w2 k f := x15 (ix2 k f)
  b2 f := x16 (ix1 f)
  w3 k := x17 (ix2 k 0)
  b3 := x18 (ix1 0)

/-- A bit read as a number is the number of what it tests. -/
theorem bit_num (p : Prop) [i : Decidable p] [j : Decidable p] :
    (FloatOps.uitofp (F := Ideal) .f32 (BitVec.ofBool (@decide p i)) : EReal) = @num p j := by
  unfold num
  by_cases h : p
  · rw [if_pos h, show @decide p i = true from @decide_eq_true p i h]
    show (((BitVec.ofBool true).toNat : ℝ) : EReal) = 1
    rw [show (BitVec.ofBool true).toNat = 1 from by decide]
    norm_num
  · rw [if_neg h, show @decide p i = false from @decide_eq_false p i h]
    show (((BitVec.ofBool false).toNat : ℝ) : EReal) = 0
    rw [show (BitVec.ofBool false).toNat = 0 from by decide]
    norm_num

/-- The reference's masked neighbour embedding at an entry. -/
theorem embN_at (x1 : FVec Ideal S32768x16x4 .f32) (x3 : FVec Ideal S32768x16 .f32) (x9 : FVec Ideal S4x32 .f32) (x10 : FVec Ideal S32 .f32)
    (n : Fin 32768) (t : Fin 16) (f : Fin 32) :
    (val_main_v15 (F := Ideal) x1 x3 x9 x10 (ix3 n t f) : EReal)
      = emb (fun d => x1 (ix3 n t d)) (fun d f => x9 (ix2 d f)) (fun f => x10 (ix1 f)) f * num ((show EReal from x3 (ix2 n t)) ≠ noObj) := by
  pointwise [val_main_v15, val_main_v14, val_main_v13, val_main_v12, val_main_v11, val_main_v10, val_main_cst, val_main_v9, val_main_v8, val_main_v7, val_main_v6, val_main_v5,
    val_main_call1_v0, val_main_call1_cst]
  exact congrArg (fun z : EReal => emb (fun d => x1 (ix3 n t d)) (fun d f => x9 (ix2 d f)) (fun f => x10 (ix1 f)) f * z) (bit_num _)

/-- The reference's masked sign embedding at an entry. -/
theorem embS_at (x2 : FVec Ideal S32768x16x2 .f32) (x4 : FVec Ideal S32768x16 .f32) (x11 : FVec Ideal S2x32 .f32) (x12 : FVec Ideal S32 .f32)
    (n : Fin 32768) (t : Fin 16) (f : Fin 32) :
    (val_main_v31 (F := Ideal) x2 x4 x11 x12 (ix3 n t f) : EReal)
      = emb (fun d => x2 (ix3 n t d)) (fun d f => x11 (ix2 d f)) (fun f => x12 (ix1 f)) f * num ((show EReal from x4 (ix2 n t)) ≠ noObj) := by
  pointwise [val_main_v31, val_main_v30, val_main_v29, val_main_v28, val_main_v27, val_main_v26, val_main_cst_1, val_main_v25, val_main_v24, val_main_v23, val_main_v22, val_main_v21,
    val_main_call2_v0, val_main_call2_cst]
  exact congrArg (fun z : EReal => emb (fun d => x2 (ix3 n t d)) (fun d f => x11 (ix2 d f)) (fun f => x12 (ix1 f)) f * z) (bit_num _)

/-- The reference's pedestrian embedding at an entry. -/
theorem ped_at (x0 : FVec Ideal S16x16x4 .f32) (x7 : FVec Ideal S4x32 .f32) (x8 : FVec Ideal S32 .f32) (s t : Fin 16) (f : Fin 32) :
    (val_main_v4 (F := Ideal) x0 x7 x8 (ix3 s t f) : EReal) = emb (fun d => x0 (ix3 s t d)) (fun d f => x7 (ix2 d f)) (fun f => x8 (ix1 f)) f := by
  pointwise [val_main_v4, val_main_v3, val_main_v2, val_main_v1, val_main_v0, val_main_call0_v0, val_main_call0_cst]
  rfl

/-- A word is a small number's exactly when it reads as that number. -/
theorem toInt_small (x : BitVec 32) (s : Fin 16) : x.toInt = (s.val : Int) ↔ x = BitVec.ofNat 32 s.val := by
  have hs : (BitVec.ofNat 32 s.val).toInt = (s.val : Int) := by
    revert s
    decide
  rw [← hs]
  exact BitVec.toInt_inj

/-- Where an update lands: its segment's row, its own column. -/
theorem lands (idx : IVec S32768x1 32) (n : Fin 32768) (col : Fin 512) (s : Fin 16) (col' : Fin 512) :
    scatter_S16x512_S32768x1_S32768x512_1_0_0_1.resultIdx? (ix2 n col) idx = some (ix2 s col') ↔ idx (ix2 n 0) = BitVec.ofNat 32 s.val ∧ col = col' := by
  have w0 : scatter_S16x512_S32768x1_S32768x512_1_0_0_1.window (ix2 n col) 0 = 0 := rfl
  have w1 : scatter_S16x512_S32768x1_S32768x512_1_0_0_1.window (ix2 n col) 1 = col.val := rfl
  have s1 : scatter_S16x512_S32768x1_S32768x512_1_0_0_1.start (ix2 n col) idx 1 = 0 := rfl
  have s0 : scatter_S16x512_S32768x1_S32768x512_1_0_0_1.start (ix2 n col) idx 0 = (idx (ix2 n 0)).toInt := by
    unfold ScatterDims.start
    rw [dif_pos (by decide)]
    refine congrArg (fun i => (idx i).toInt) (funext fun b => ?_)
    match b with
    | ⟨0, _⟩ => rfl
    | ⟨1, _⟩ => rfl
  refine (Routing.resultIdx?_ix2 _ _ _ s col').trans ?_
  rw [w0, w1, s0, s1, ← toInt_small]
  constructor
  · intro h; exact ⟨by have := h.1; omega, Fin.ext (by have := h.2; omega)⟩
  · intro h; exact ⟨by rw [h.1]; rfl, by rw [h.2]; omega⟩

/-- Rows added into their segments. -/
theorem scatter_at (z : FVec Ideal S16x512 .f32) (hz : ∀ s col, (z (ix2 s col) : EReal) = 0) (idx : IVec S32768x1 32) (u : FVec Ideal S32768x512 .f32) (s : Fin 16) (col : Fin 512) :
    (Host.scatterAdd scatter_S16x512_S32768x1_S32768x512_1_0_0_1 z idx u (ix2 s col) : EReal)
      = ∑ n : Fin 32768, if idx (ix2 n 0) = BitVec.ofNat 32 s.val then (show EReal from u (ix2 n col)) else 0 := by
  show (z (ix2 s col) : EReal) + ∑ j ∈ Finset.univ.filter (fun j => scatter_S16x512_S32768x1_S32768x512_1_0_0_1.resultIdx? j idx = some (ix2 s col)), (show EReal from u j) = _
  rw [hz, zero_add, ← Finset.sum_filter]
  refine (Finset.sum_nbij (fun n : Fin 32768 => (ix2 n col : S32768x512.Idx)) ?_ ?_ ?_ ?_).symm
  · intro n hn
    rw [Finset.mem_filter] at hn ⊢
    exact ⟨Finset.mem_univ _, (lands idx n col s col).2 ⟨hn.2, rfl⟩⟩
  · intro n _ n' _ e
    exact congrFun e 0
  · intro j hj
    obtain ⟨n, c, rfl⟩ : ∃ (n : Fin 32768) (c : Fin 512), j = ix2 n c := ⟨j 0, j 1, funext fun a => match a with | ⟨0, _⟩ => rfl | ⟨1, _⟩ => rfl⟩
    rw [Finset.mem_coe, Finset.mem_filter] at hj
    have hl := (lands idx n c s col).1 hj.2
    refine ⟨n, ?_, ?_⟩
    · rw [Finset.mem_coe, Finset.mem_filter]; exact ⟨Finset.mem_univ _, hl.1⟩
    · rw [← hl.2]
  · intro n _; rfl

/-- The neighbours' and the signs' sums. -/
theorem aggN_at (x1 : FVec Ideal S32768x16x4 .f32) (x3 : FVec Ideal S32768x16 .f32) (x5 : IVec S32768 32) (x9 : FVec Ideal S4x32 .f32) (x10 : FVec Ideal S32 .f32)
    (s t : Fin 16) (f : Fin 32) :
    (val_main_v20 (F := Ideal) x1 x3 x5 x9 x10 (ix3 s t f) : EReal)
      = agg (fun n t d => x1 (ix3 n t d)) (fun n t => x3 (ix2 n t)) (fun n => x5 (ix1 n)) (fun d f => x9 (ix2 d f)) (fun f => x10 (ix1 f)) s t f := by
  refine Eq.trans (b := (val_main_v19 (F := Ideal) x1 x3 x5 x9 x10 (ix2 s ⟨t.val * 32 + f.val, by omega⟩) : EReal)) ?_ ?_
  · unfold val_main_v20
    generalize val_main_v19 (F := Ideal) x1 x3 x5 x9 x10 = y
    pointwise
  refine Eq.trans (scatter_at _ ?_ _ _ s ⟨t.val * 32 + f.val, by omega⟩) ?_
  · intro s col; pointwise [val_main_v17, val_main_cst_0]
  refine Finset.sum_congr rfl fun n _ => if_congr (Iff.of_eq (congrArg (· = _) ?_)) ?_ rfl
  · unfold val_main_v18
    pointwise
  · refine Eq.trans (b := (val_main_v15 (F := Ideal) x1 x3 x9 x10 (ix3 n t f) : EReal)) ?_ (embN_at x1 x3 x9 x10 n t f)
    unfold val_main_v16
    generalize val_main_v15 (F := Ideal) x1 x3 x9 x10 = y
    pointwise

/-- The reference's segment sum over the signs. -/
theorem aggS_at (x2 : FVec Ideal S32768x16x2 .f32) (x4 : FVec Ideal S32768x16 .f32) (x6 : IVec S32768 32) (x11 : FVec Ideal S2x32 .f32) (x12 : FVec Ideal S32 .f32)
    (s t : Fin 16) (f : Fin 32) :
    (val_main_v36 (F := Ideal) x2 x4 x6 x11 x12 (ix3 s t f) : EReal)
      = agg (fun n t d => x2 (ix3 n t d)) (fun n t => x4 (ix2 n t)) (fun n => x6 (ix1 n)) (fun d f => x11 (ix2 d f)) (fun f => x12 (ix1 f)) s t f := by
  refine Eq.trans (b := (val_main_v35 (F := Ideal) x2 x4 x6 x11 x12 (ix2 s ⟨t.val * 32 + f.val, by omega⟩) : EReal)) ?_ ?_
  · unfold val_main_v36
    generalize val_main_v35 (F := Ideal) x2 x4 x6 x11 x12 = y
    pointwise
  refine Eq.trans (scatter_at _ ?_ _ _ s ⟨t.val * 32 + f.val, by omega⟩) ?_
  · intro s col; pointwise [val_main_v33, val_main_cst_2]
  refine Finset.sum_congr rfl fun n _ => if_congr (Iff.of_eq (congrArg (· = _) ?_)) ?_ rfl
  · unfold val_main_v34
    pointwise
  · refine Eq.trans (b := (val_main_v31 (F := Ideal) x2 x4 x11 x12 (ix3 n t f) : EReal)) ?_ (embS_at x2 x4 x11 x12 n t f)
    unfold val_main_v32
    generalize val_main_v31 (F := Ideal) x2 x4 x11 x12 = y
    pointwise

variable (x0 : FVec Ideal S16x16x4 .f32) (x1 : FVec Ideal S32768x16x4 .f32) (x2 : FVec Ideal S32768x16x2 .f32) (x3 x4 : FVec Ideal S32768x16 .f32)
    (x5 x6 : IVec S32768 32) (x7 : FVec Ideal S4x32 .f32) (x8 : FVec Ideal S32 .f32) (x9 : FVec Ideal S4x32 .f32) (x10 : FVec Ideal S32 .f32)
    (x11 : FVec Ideal S2x32 .f32) (x12 : FVec Ideal S32 .f32) (x13 : FVec Ideal S96x32 .f32) (x14 : FVec Ideal S32 .f32) (x15 : FVec Ideal S32x32 .f32)
    (x16 : FVec Ideal S32 .f32) (x17 : FVec Ideal S32x1 .f32) (x18 : FVec Ideal S1 .f32)

/-- The features, side by side. -/
theorem feat_at (s t : Fin 16) (k : Fin 96) :
    (val_main_v37 (F := Ideal) x0 x1 x2 x3 x4 x5 x6 x7 x8 x9 x10 x11 x12 (ix3 s t k) : EReal)
      = feat (args x0 x1 x2 x3 x4 x5 x6 x7 x8 x9 x10 x11 x12 x13 x14 x15 x16 x17 x18) s t k := by
  have hp := fun f => ped_at x0 x7 x8 s t f
  have hn := fun f => aggN_at x1 x3 x5 x9 x10 s t f
  have hs := fun f => aggS_at x2 x4 x6 x11 x12 s t f
  unfold val_main_v37
  revert hp hn hs
  generalize val_main_v4 (F := Ideal) x0 x7 x8 = yp
  generalize val_main_v20 (F := Ideal) x1 x3 x5 x9 x10 = yn
  generalize val_main_v36 (F := Ideal) x2 x4 x6 x11 x12 = ys
  intro hp hn hs
  pointwise
  unfold feat
  by_cases h : k.val < 32
  · rw [dif_pos h, if_pos h, hp]
    exact congrArg (ped (args x0 x1 x2 x3 x4 x5 x6 x7 x8 x9 x10 x11 x12 x13 x14 x15 x16 x17 x18) s t) (Fin.ext (by show k.val = k.val % 32; omega))
  · rw [dif_neg h, if_neg h]
    by_cases h' : k.val < 64
    · rw [dif_pos (by omega), if_pos h', hn]
      exact congrArg (aggN (args x0 x1 x2 x3 x4 x5 x6 x7 x8 x9 x10 x11 x12 x13 x14 x15 x16 x17 x18) s t) (Fin.ext (by show k.val - 32 = k.val % 32; omega))
    · rw [dif_neg (by omega), if_neg h', hs]
      exact congrArg (aggS (args x0 x1 x2 x3 x4 x5 x6 x7 x8 x9 x10 x11 x12 x13 x14 x15 x16 x17 x18) s t) (Fin.ext (by show k.val - 32 - 32 = k.val % 32; omega))

/-- The classifier's layers and the score. -/
theorem h1_at (s t : Fin 16) (f : Fin 32) :
    (val_main_v42 (F := Ideal) x0 x1 x2 x3 x4 x5 x6 x7 x8 x9 x10 x11 x12 x13 x14 (ix3 s t f) : EReal)
      = h1 (args x0 x1 x2 x3 x4 x5 x6 x7 x8 x9 x10 x11 x12 x13 x14 x15 x16 x17 x18) s t f := by
  unfold h1
  refine Eq.trans (b := max (∑ k : Fin 96, (show EReal from val_main_v37 (F := Ideal) x0 x1 x2 x3 x4 x5 x6 x7 x8 x9 x10 x11 x12 (ix3 s t k)) * (show EReal from x13 (ix2 k f)) + (show EReal from x14 (ix1 f))) 0) ?_
    (congrArg (fun z : EReal => max (z + (show EReal from x14 (ix1 f))) 0) (Finset.sum_congr rfl fun k _ => congrArg (fun z : EReal => z * (show EReal from x13 (ix2 k f))) (feat_at x0 x1 x2 x3 x4 x5 x6 x7 x8 x9 x10 x11 x12 x13 x14 x15 x16 x17 x18 s t k)))
  unfold val_main_v42 val_main_v41 val_main_v38
  generalize val_main_v37 (F := Ideal) x0 x1 x2 x3 x4 x5 x6 x7 x8 x9 x10 x11 x12 = y
  pointwise [val_main_v40, val_main_v39, val_main_call3_v0, val_main_call3_cst]

/-- The reference's second layer at an entry. -/
theorem h2_at (s t : Fin 16) (f : Fin 32) :
    (val_main_v47 (F := Ideal) x0 x1 x2 x3 x4 x5 x6 x7 x8 x9 x10 x11 x12 x13 x14 x15 x16 (ix3 s t f) : EReal)
      = h2 (args x0 x1 x2 x3 x4 x5 x6 x7 x8 x9 x10 x11 x12 x13 x14 x15 x16 x17 x18) s t f := by
  unfold h2
  refine Eq.trans (b := max (∑ k : Fin 32, (show EReal from val_main_v42 (F := Ideal) x0 x1 x2 x3 x4 x5 x6 x7 x8 x9 x10 x11 x12 x13 x14 (ix3 s t k)) * (show EReal from x15 (ix2 k f)) + (show EReal from x16 (ix1 f))) 0) ?_
    (congrArg (fun z : EReal => max (z + (show EReal from x16 (ix1 f))) 0) (Finset.sum_congr rfl fun k _ => congrArg (fun z : EReal => z * (show EReal from x15 (ix2 k f))) (h1_at x0 x1 x2 x3 x4 x5 x6 x7 x8 x9 x10 x11 x12 x13 x14 x15 x16 x17 x18 s t k)))
  unfold val_main_v47 val_main_v46 val_main_v43
  generalize val_main_v42 (F := Ideal) x0 x1 x2 x3 x4 x5 x6 x7 x8 x9 x10 x11 x12 x13 x14 = y
  pointwise [val_main_v45, val_main_v44, val_main_call4_v0, val_main_call4_cst]

/-- The reference's score at an entry. -/
theorem score_at (s t : Fin 16) :
    (val_main_v51 (F := Ideal) x0 x1 x2 x3 x4 x5 x6 x7 x8 x9 x10 x11 x12 x13 x14 x15 x16 x17 x18 (ix3 s t 0) : EReal)
      = score (args x0 x1 x2 x3 x4 x5 x6 x7 x8 x9 x10 x11 x12 x13 x14 x15 x16 x17 x18) s t := by
  unfold score
  refine Eq.trans (b := ∑ k : Fin 32, (show EReal from val_main_v47 (F := Ideal) x0 x1 x2 x3 x4 x5 x6 x7 x8 x9 x10 x11 x12 x13 x14 x15 x16 (ix3 s t k)) * (show EReal from x17 (ix2 k 0)) + (show EReal from x18 (ix1 0))) ?_
    (congrArg (fun z : EReal => z + (show EReal from x18 (ix1 0))) (Finset.sum_congr rfl fun k _ => congrArg (fun z : EReal => z * (show EReal from x17 (ix2 k 0))) (h2_at x0 x1 x2 x3 x4 x5 x6 x7 x8 x9 x10 x11 x12 x13 x14 x15 x16 x17 x18 s t k)))
  unfold val_main_v51 val_main_v48
  generalize val_main_v47 (F := Ideal) x0 x1 x2 x3 x4 x5 x6 x7 x8 x9 x10 x11 x12 x13 x14 x15 x16 = y
  pointwise [val_main_v50, val_main_v49]

end Cert.ReferenceIdeal.Hand

end
-- ==== Proof.Pre.lean ====
/- The precondition read at an entry: no neighbour or sign bias is plus infinity. -/
module

public import proofs.«01_k».proof.Pre_biases_below_inf
public import Idealize.ShloMosaic.Lib.Pointwise

@[expose] public section

noncomputable section

namespace Cert.Pre_biases_below_inf

open Idealize.ShloMosaic

/-- The side conditions of the predicate's operations. -/
instance facts : Facts where
  concatenates_S32_S32_S64_d0 := by decide
  bcast_S_S64 := by decide

variable (x0 : FVec Ideal S16x16x4 .f32) (x1 : FVec Ideal S32768x16x4 .f32) (x2 : FVec Ideal S32768x16x2 .f32)
  (x3 x4 : FVec Ideal S32768x16 .f32) (x5 x6 : IVec S32768 32) (x7 : FVec Ideal S4x32 .f32) (x8 : FVec Ideal S32 .f32)
  (x9 : FVec Ideal S4x32 .f32) (x10 : FVec Ideal S32 .f32) (x11 : FVec Ideal S2x32 .f32) (x12 : FVec Ideal S32 .f32)
  (x13 : FVec Ideal S96x32 .f32) (x14 : FVec Ideal S32 .f32) (x15 : FVec Ideal S32x32 .f32) (x16 : FVec Ideal S32 .f32)
  (x17 : FVec Ideal S32x1 .f32) (x18 : FVec Ideal S1 .f32)

/-- A value that compares below another is below plus infinity. -/
theorem below (x y : EReal) (h : BitVec.ofBool (decide (x < y)) = 1#1) : x < ⊤ := by
  by_cases hd : x < y
  · exact lt_top_of_lt hd
  · rw [show decide (x < y) = false from decide_eq_false hd] at h
    exact absurd h (by decide)

/-- Every neighbour bias is below plus infinity. -/
theorem below_nb (h : fn (F := Ideal) x0 x1 x2 x3 x4 x5 x6 x7 x8 x9 x10 x11 x12 x13 x14 x15 x16 x17 x18 = fun _ => 1#1) (f : Fin 32) :
    (x10 (ix1 f) : EReal) < ⊤ := by
  have e := congrFun h (ix1 ⟨f.val, by omega⟩)
  revert e
  pointwise [fn]
  exact below _ _

/-- Every sign bias is below plus infinity. -/
theorem below_sg (h : fn (F := Ideal) x0 x1 x2 x3 x4 x5 x6 x7 x8 x9 x10 x11 x12 x13 x14 x15 x16 x17 x18 = fun _ => 1#1) (f : Fin 32) :
    (x12 (ix1 f) : EReal) < ⊤ := by
  have e := congrFun h (ix1 ⟨32 + f.val, by omega⟩)
  revert e
  pointwise [fn]
  exact below _ _

end Cert.Pre_biases_below_inf

end
-- ==== Proof.Agree.lean ====
/- The kernel's two results are the reference's, on arguments that agree. -/
module

public import proofs.«01_k».proof.Proof.Result
public import proofs.«01_k».proof.Proof.Ref
public import proofs.«01_k».proof.Proof.Pre

@[expose] public section

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (c : Dev nD)

/-- What a run leaves in the first result: the scores. -/
def res0 : Buf (Elt Ideal) ((c.tc : Thread nD τ).loc main_v0_0) := Pipeline.afterTail₀ cfgs (dats m) 0 (V0 m) [hostOps1] c main_v0_0
/-- What a run leaves in the second result: the features. -/
def res1 : Buf (Elt Ideal) ((c.tc : Thread nD τ).loc main_v0_1) := Pipeline.afterTail₀ cfgs (dats m) 0 (V0 m) [hostOps1] c main_v0_1

/-- The reference's problem is the kernel's, where the arguments agree. -/
theorem args_agree
  (x0 : FVec Ideal Cert.ReferenceIdeal.S16x16x4 .f32)
  (x1 : FVec Ideal Cert.ReferenceIdeal.S32768x16x4 .f32)
  (x2 : FVec Ideal Cert.ReferenceIdeal.S32768x16x2 .f32)
  (x3 : FVec Ideal Cert.ReferenceIdeal.S32768x16 .f32)
  (x4 : FVec Ideal Cert.ReferenceIdeal.S32768x16 .f32)
  (x5 : IVec Cert.ReferenceIdeal.S32768 32)
  (x6 : IVec Cert.ReferenceIdeal.S32768 32)
  (x7 : FVec Ideal Cert.ReferenceIdeal.S4x32 .f32)
  (x8 : FVec Ideal Cert.ReferenceIdeal.S32 .f32)
  (x9 : FVec Ideal Cert.ReferenceIdeal.S4x32 .f32)
  (x10 : FVec Ideal Cert.ReferenceIdeal.S32 .f32)
  (x11 : FVec Ideal Cert.ReferenceIdeal.S2x32 .f32)
  (x12 : FVec Ideal Cert.ReferenceIdeal.S32 .f32)
  (x13 : FVec Ideal Cert.ReferenceIdeal.S96x32 .f32)
  (x14 : FVec Ideal Cert.ReferenceIdeal.S32 .f32)
  (x15 : FVec Ideal Cert.ReferenceIdeal.S32x32 .f32)
  (x16 : FVec Ideal Cert.ReferenceIdeal.S32 .f32)
  (x17 : FVec Ideal Cert.ReferenceIdeal.S32x1 .f32)
  (x18 : FVec Ideal Cert.ReferenceIdeal.S1 .f32)
  (h0 : x0 = m ((c.tc : Thread nD τ).loc main_arg0))
  (h1 : x1 = m ((c.tc : Thread nD τ).loc main_arg1))
  (h2 : x2 = m ((c.tc : Thread nD τ).loc main_arg2))
  (h3 : x3 = m ((c.tc : Thread nD τ).loc main_arg3))
  (h4 : x4 = m ((c.tc : Thread nD τ).loc main_arg4))
  (h5 : x5 = m ((c.tc : Thread nD τ).loc main_arg5))
  (h6 : x6 = m ((c.tc : Thread nD τ).loc main_arg6))
  (h7 : x7 = m ((c.tc : Thread nD τ).loc main_arg7))
  (h8 : x8 = m ((c.tc : Thread nD τ).loc main_arg8))
  (h9 : x9 = m ((c.tc : Thread nD τ).loc main_arg9))
  (h10 : x10 = m ((c.tc : Thread nD τ).loc main_arg10))
  (h11 : x11 = m ((c.tc : Thread nD τ).loc main_arg11))
  (h12 : x12 = m ((c.tc : Thread nD τ).loc main_arg12))
  (h13 : x13 = m ((c.tc : Thread nD τ).loc main_arg13))
  (h14 : x14 = m ((c.tc : Thread nD τ).loc main_arg14))
  (h15 : x15 = m ((c.tc : Thread nD τ).loc main_arg15))
  (h16 : x16 = m ((c.tc : Thread nD τ).loc main_arg16))
  (h17 : x17 = m ((c.tc : Thread nD τ).loc main_arg17))
  (h18 : x18 = m ((c.tc : Thread nD τ).loc main_arg18)) :
    Cert.ReferenceIdeal.Hand.args x0 x1 x2 x3 x4 x5 x6 x7 x8 x9 x10 x11 x12 x13 x14 x15 x16 x17 x18 = args m c := by
  subst h0 h1 h2 h3 h4 h5 h6 h7 h8 h9 h10 h11 h12 h13 h14 h15 h16 h17 h18
  rfl

/-- The first results agree. -/
theorem res0_agree (hn : ∀ f, (args m c).bn f < ⊤) (hs : ∀ f, (args m c).bs f < ⊤)
  (x0 : FVec Ideal Cert.ReferenceIdeal.S16x16x4 .f32)
  (x1 : FVec Ideal Cert.ReferenceIdeal.S32768x16x4 .f32)
  (x2 : FVec Ideal Cert.ReferenceIdeal.S32768x16x2 .f32)
  (x3 : FVec Ideal Cert.ReferenceIdeal.S32768x16 .f32)
  (x4 : FVec Ideal Cert.ReferenceIdeal.S32768x16 .f32)
  (x5 : IVec Cert.ReferenceIdeal.S32768 32)
  (x6 : IVec Cert.ReferenceIdeal.S32768 32)
  (x7 : FVec Ideal Cert.ReferenceIdeal.S4x32 .f32)
  (x8 : FVec Ideal Cert.ReferenceIdeal.S32 .f32)
  (x9 : FVec Ideal Cert.ReferenceIdeal.S4x32 .f32)
  (x10 : FVec Ideal Cert.ReferenceIdeal.S32 .f32)
  (x11 : FVec Ideal Cert.ReferenceIdeal.S2x32 .f32)
  (x12 : FVec Ideal Cert.ReferenceIdeal.S32 .f32)
  (x13 : FVec Ideal Cert.ReferenceIdeal.S96x32 .f32)
  (x14 : FVec Ideal Cert.ReferenceIdeal.S32 .f32)
  (x15 : FVec Ideal Cert.ReferenceIdeal.S32x32 .f32)
  (x16 : FVec Ideal Cert.ReferenceIdeal.S32 .f32)
  (x17 : FVec Ideal Cert.ReferenceIdeal.S32x1 .f32)
  (x18 : FVec Ideal Cert.ReferenceIdeal.S1 .f32)
  (e : Cert.ReferenceIdeal.Hand.args x0 x1 x2 x3 x4 x5 x6 x7 x8 x9 x10 x11 x12 x13 x14 x15 x16 x17 x18 = args m c) :
    Cert.ReferenceIdeal.Read.val_main_v51 (F := Ideal) x0 x1 x2 x3 x4 x5 x6 x7 x8 x9 x10 x11 x12 x13 x14 x15 x16 x17 x18 = res0 m c := by
  funext i
  have one : ∀ l : Fin 1, l = 0 := fun l => Subsingleton.elim _ _
  obtain ⟨s, t, l, rfl⟩ : ∃ (s : Fin 16) (t : Fin 16) (l : Fin 1), i = ix3 s t l := ⟨_, _, _, eq_ix3 (n0 := 16) (n1 := 16) (n2 := 1) i⟩
  rw [one l]
  refine (Cert.ReferenceIdeal.Hand.score_at x0 x1 x2 x3 x4 x5 x6 x7 x8 x9 x10 x11 x12 x13 x14 x15 x16 x17 x18 _ _).trans ?_
  rw [e]
  exact (score_at m c hn hs _ _).symm

/-- The second results agree. -/
theorem res1_agree (hn : ∀ f, (args m c).bn f < ⊤) (hs : ∀ f, (args m c).bs f < ⊤)
  (x0 : FVec Ideal Cert.ReferenceIdeal.S16x16x4 .f32)
  (x1 : FVec Ideal Cert.ReferenceIdeal.S32768x16x4 .f32)
  (x2 : FVec Ideal Cert.ReferenceIdeal.S32768x16x2 .f32)
  (x3 : FVec Ideal Cert.ReferenceIdeal.S32768x16 .f32)
  (x4 : FVec Ideal Cert.ReferenceIdeal.S32768x16 .f32)
  (x5 : IVec Cert.ReferenceIdeal.S32768 32)
  (x6 : IVec Cert.ReferenceIdeal.S32768 32)
  (x7 : FVec Ideal Cert.ReferenceIdeal.S4x32 .f32)
  (x8 : FVec Ideal Cert.ReferenceIdeal.S32 .f32)
  (x9 : FVec Ideal Cert.ReferenceIdeal.S4x32 .f32)
  (x10 : FVec Ideal Cert.ReferenceIdeal.S32 .f32)
  (x11 : FVec Ideal Cert.ReferenceIdeal.S2x32 .f32)
  (x12 : FVec Ideal Cert.ReferenceIdeal.S32 .f32)
  (x13 : FVec Ideal Cert.ReferenceIdeal.S96x32 .f32)
  (x14 : FVec Ideal Cert.ReferenceIdeal.S32 .f32)
  (x15 : FVec Ideal Cert.ReferenceIdeal.S32x32 .f32)
  (x16 : FVec Ideal Cert.ReferenceIdeal.S32 .f32)
  (x17 : FVec Ideal Cert.ReferenceIdeal.S32x1 .f32)
  (x18 : FVec Ideal Cert.ReferenceIdeal.S1 .f32)
  (e : Cert.ReferenceIdeal.Hand.args x0 x1 x2 x3 x4 x5 x6 x7 x8 x9 x10 x11 x12 x13 x14 x15 x16 x17 x18 = args m c) :
    Cert.ReferenceIdeal.Read.val_main_v37 (F := Ideal) x0 x1 x2 x3 x4 x5 x6 x7 x8 x9 x10 x11 x12 = res1 m c := by
  funext i
  rw [eq_ix3 (n0 := 16) (n1 := 16) (n2 := 96) i]
  refine (Cert.ReferenceIdeal.Hand.feat_at x0 x1 x2 x3 x4 x5 x6 x7 x8 x9 x10 x11 x12 x13 x14 x15 x16 x17 x18 _ _ _).trans ?_
  rw [e]
  exact (feat_at m c hn hs _ _ _).symm

end Cert.KernelIdeal.Hand

end
-- ==== Proof.lean ====
/- The seven conjuncts of the claim: the frames of the kernel, of its ideal reading and of the reference, and the
   equality of the two programs' results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.Words.Body
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: its arguments end unchanged, and it has no counter. -/
theorem frame_r : Cert.quiescent_ReferenceIdeal := by
  intro m g _
  exact (θ_run Cert.ReferenceIdeal.defs _ _).mono (fun r h => ⟨fun c => (h c).2.2, sem_eq_zero_of_no_sems (by decide) r.2⟩)
    (Cert.ReferenceIdeal.Value.run (F := Ideal) m g)

/-- From memories that agree on the arguments, no bias of the aggregated objects being plus infinity, the kernel and
    the reference end with equal results. -/
theorem algebraic : Cert.algebraic_KernelIdeal_ReferenceIdeal_pre_biases_below_inf := by
  intro m g m' g' hpre hagree
  refine ⟨Cert.KernelIdeal.Hand.res0 m, Cert.KernelIdeal.Hand.res1 m, ?_, ?_⟩
  · refine θ_run_mono (θ_run_and (Cert.KernelIdeal.Hand.run_main (F := Ideal) m g) (Cert.KernelIdeal.Hand.frame (F := Ideal) m g)) ?_
    intro r h c
    exact ⟨(h.1 c).2 Cert.KernelIdeal.main_v0_0 (Pipeline.mem_restRefs_of _ (by decide) (by decide)),
      (h.1 c).2 Cert.KernelIdeal.main_v0_1 (Pipeline.mem_restRefs_of _ (by decide) (by decide)), h.2.1 c⟩
  · refine θ_run_mono (Cert.ReferenceIdeal.Value.run (F := Ideal) m' g') ?_
    intro r h c
    have hn : ∀ f, (Cert.KernelIdeal.Hand.args m c).bn f < ⊤ := Cert.Pre_biases_below_inf.below_nb _ _ _ _ _ _ _ _ _ _ _ _ _ _ _ _ _ _ _ (hpre c)
    have hs : ∀ f, (Cert.KernelIdeal.Hand.args m c).bs f < ⊤ := Cert.Pre_biases_below_inf.below_sg _ _ _ _ _ _ _ _ _ _ _ _ _ _ _ _ _ _ _ (hpre c)
    have e := Cert.KernelIdeal.Hand.args_agree m c _ _ _ _ _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2
    exact ⟨((h c).1.trans (Cert.ReferenceIdeal.Read.val_main_v51_eq _ _ _ _ _ _ _ _ _ _ _ _ _ _ _ _ _ _ _)).trans (Cert.KernelIdeal.Hand.res0_agree m c hn hs _ _ _ _ _ _ _ _ _ _ _ _ _ _ _ _ _ _ _ e),
      ((h c).2.1.trans (Cert.ReferenceIdeal.Read.val_main_v37_eq _ _ _ _ _ _ _ _ _ _ _ _ _)).trans (Cert.KernelIdeal.Hand.res1_agree m c hn hs _ _ _ _ _ _ _ _ _ _ _ _ _ _ _ _ _ _ _ e), (h c).2.2⟩

/-- Everything claimed. -/
theorem claim : Cert.Claim :=
  ⟨Cert.Kernel.Gen.facts, Cert.KernelIdeal.Gen.facts, Cert.ReferenceIdeal.Gen.facts, Cert.Pre_biases_below_inf.facts,
    fun m g _ => Cert.Kernel.Hand.frame m g, fun m g _ => Cert.KernelIdeal.Hand.frame m g,
    fun m g _ => Cert.KernelIdeal.Hand.frame m g, frame_r, fun m g _ => frame_r m g trivial, trivial, algebraic⟩

end Cert.Proof

end
